-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_order [hPre_in_order : Cert.Pre_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_order [hPre_in_order : Cert.Pre_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_order [hKernelIdeal : Cert.KernelIdeal.Facts] [hPre_in_order : Cert.Pre_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_order [hReferenceIdeal : Cert.ReferenceIdeal.Facts] [hPre_in_order : Cert.Pre_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_in_order [hKernelIdeal : Cert.KernelIdeal.Facts] [hReferenceIdeal : Cert.ReferenceIdeal.Facts] [hPre_in_order : Cert.Pre_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_order : Cert.Pre_in_order.Facts),
    quiescent_Kernel (hKernel := hKernel)
    ∧ quiescent_KernelIdeal (hKernelIdeal := hKernelIdeal)
    ∧ quiescent_KernelIdeal_pre_in_order (hKernelIdeal := hKernelIdeal) (hPre_in_order := hPre_in_order)
    ∧ quiescent_ReferenceIdeal (hReferenceIdeal := hReferenceIdeal)
    ∧ quiescent_ReferenceIdeal_pre_in_order (hReferenceIdeal := hReferenceIdeal) (hPre_in_order := hPre_in_order)
    ∧ preserves_Kernel_KernelIdeal
    ∧ algebraic_KernelIdeal_ReferenceIdeal_pre_in_order (hKernelIdeal := hKernelIdeal) (hReferenceIdeal := hReferenceIdeal) (hPre_in_order := hPre_in_order)
-- ==== Pre_in_order.lean ====
abbrev S10000 : Shape := ⟨1, ![10000]⟩
abbrev S10000x128 : Shape := ⟨2, ![10000, 128]⟩
abbrev S128x128 : Shape := ⟨2, ![128, 128]⟩
abbrev S128 : Shape := ⟨1, ![128]⟩
abbrev S_ : Shape := ⟨0, ![]⟩

class Facts : Prop where
  reducesTo_S10000_S_d0 : S10000.ReducesTo [0] S_
  h_S_ : 0 < S_.numel

variable [Facts]

def fn {F : FTy → Type} [FloatOps F] (main_arg0 : IVec S10000 32) (main_arg1 : FVec F S10000x128 .f32) (main_arg2 : FVec F S128x128 .f32) (main_arg3 : FVec F S128 .f32) (main_arg4 : FVec F S128x128 .f32) (main_arg5 : FVec F S128 .f32) : IVec S_ 1 :=
  let main_v0 : IVec S10000 32 := iotaInDim S10000 32 0
  let main_v1 : IVec S10000 1 := cmpi .eq main_arg0 main_v0
  let main_c : IVec S_ 1 := constantI S_ 1 1#1
  let main_v2 : IVec S_ 1 := (fun x v => Host.reduce IntOp.andi x v reducesTo_S10000_S_d0 h_S_) main_v1 main_c
  main_v2
-- ==== Kernel.lean ====
abbrev S10000 : Shape := ⟨1, ![10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S10000x10000 : Shape := ⟨2, ![10000, 10000]⟩
abbrev S200x128 : Shape := ⟨2, ![200, 128]⟩
abbrev S200x10000 : Shape := ⟨2, ![200, 10000]⟩
abbrev S200 : Shape := ⟨1, ![200]⟩
abbrev S200x1 : Shape := ⟨2, ![200, 1]⟩

abbrev nBuf : Space → Nat
  | .hbm => 11
  | .vmem => 15
  | .smem => 0
  | _ => 0

abbrev bufTy : (tb : Table) → Fin (tcTables nBuf tb) → BufTy
  | .hbm, ⟨0, _⟩ => ⟨S10000, .i32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S10000x10000, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S128x128, .f32⟩
  | .local _ .vmem, ⟨4, _⟩ => ⟨S1x128, .f32⟩
  | .local _ .vmem, ⟨5, _⟩ => ⟨S10000x128, .f32⟩
  | .local _ .vmem, ⟨6, _⟩ => ⟨S10000x128, .f32⟩
  | .local _ .vmem, ⟨7, _⟩ => ⟨S200x128, .f32⟩
  | .local _ .vmem, ⟨8, _⟩ => ⟨S200x128, .f32⟩
  | .local _ .vmem, ⟨9, _⟩ => ⟨S200x128, .f32⟩
  | .local _ .vmem, ⟨10, _⟩ => ⟨S200x128, .f32⟩
  | .local _ .vmem, ⟨11, _⟩ => ⟨S10000x128, .f32⟩
  | .local _ .vmem, ⟨12, _⟩ => ⟨S10000x128, .f32⟩
  | .local _ .vmem, ⟨13, _⟩ => ⟨S200x10000, .f32⟩
  | .local _ .vmem, ⟨14, _⟩ => ⟨S200x10000, .f32⟩
  | _, _ => ⟨S10000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10000x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S10000x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S10000x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x10000 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S10000 : Shape := ⟨1, ![10000]⟩
abbrev S10000x128 : Shape := ⟨2, ![10000, 128]⟩
abbrev S128x128 : Shape := ⟨2, ![128, 128]⟩
abbrev S128 : Shape := ⟨1, ![128]⟩
abbrev S_ : Shape := ⟨0, ![]⟩
abbrev S10000x1 : Shape := ⟨2, ![10000, 1]⟩
abbrev S1 : Shape := ⟨1, ![1]⟩
abbrev S1x1 : Shape := ⟨2, ![1, 1]⟩
abbrev S1x128 : Shape := ⟨2, ![1, 128]⟩
abbrev S128x10000 : Shape := ⟨2, ![128, 10000]⟩
abbrev S10000x10000 : Shape := ⟨2, ![10000, 10000]⟩
abbrev S1x10000 : Shape := ⟨2, ![1, 10000]⟩
abbrev S10000x10 : Shape := ⟨2, ![10000, 10]⟩
abbrev S10000x10x1 : Shape := ⟨3, ![10000, 10, 1]⟩
abbrev S10000x10x2 : Shape := ⟨3, ![10000, 10, 2]⟩

abbrev nBuf : Space → Nat
  | .hbm => 124
  | .vmem => 0
  | .smem => 0
  | _ => 0

abbrev bufTy : (tb : Table) → Fin (tcTables nBuf tb) → BufTy
  | .hbm, ⟨0, _⟩ => ⟨S10000, .i32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S10000, .i32⟩
  | .hbm, ⟨8, _⟩ => ⟨S10000, .i1⟩
  | .hbm, ⟨9, _⟩ => ⟨S_, .i32⟩
  | .hbm, ⟨10, _⟩ => ⟨S10000, .i32⟩
  | .hbm, ⟨11, _⟩ => ⟨S10000, .i32⟩
  | .hbm, ⟨12, _⟩ => ⟨S10000, .i32⟩
  | .hbm, ⟨13, _⟩ => ⟨S10000x1, .i32⟩
  | .hbm, ⟨14, _⟩ => ⟨S1, .i32⟩
  | .hbm, ⟨15, _⟩ => ⟨S_, .i32⟩
  | .hbm, ⟨16, _⟩ => ⟨S10000x1, .i32⟩
  | .hbm, ⟨17, _⟩ => ⟨S10000x1, .i1⟩
  | .hbm, ⟨18, _⟩ => ⟨S1x1, .i32⟩
  | .hbm, ⟨19, _⟩ => ⟨S10000x1, .i32⟩
  | .hbm, ⟨20, _⟩ => ⟨S10000x1, .i1⟩
  | .hbm, ⟨21, _⟩ => ⟨S10000x1, .i1⟩
  | .hbm, ⟨22, _⟩ => ⟨S_, .i1⟩
  | .hbm, ⟨23, _⟩ => ⟨S10000, .i1⟩
  | .hbm, ⟨24, _⟩ => ⟨S10000x128, .f32⟩
  | .hbm, ⟨25, _⟩ => ⟨S10000x128, .i1⟩
  | .hbm, ⟨26, _⟩ => ⟨S_, .f32⟩
  | .hbm, ⟨27, _⟩ => ⟨S10000x128, .f32⟩
  | .hbm, ⟨28, _⟩ => ⟨S10000x128, .f32⟩
  | .hbm, ⟨29, _⟩ => ⟨S_, .i32⟩
  | .hbm, ⟨30, _⟩ => ⟨S10000, .i32⟩
  | .hbm, ⟨31, _⟩ => ⟨S10000, .i1⟩
  | .hbm, ⟨32, _⟩ => ⟨S_, .i32⟩
  | .hbm, ⟨33, _⟩ => ⟨S10000, .i32⟩
  | .hbm, ⟨34, _⟩ => ⟨S10000, .i32⟩
  | .hbm, ⟨35, _⟩ => ⟨S10000, .i32⟩
  | .hbm, ⟨36, _⟩ => ⟨S10000x1, .i32⟩
  | .hbm, ⟨37, _⟩ => ⟨S1, .i32⟩
  | .hbm, ⟨38, _⟩ => ⟨S_, .i32⟩
  | .hbm, ⟨39, _⟩ => ⟨S10000x1, .i32⟩
  | .hbm, ⟨40, _⟩ => ⟨S10000x1, .i1⟩
  | .hbm, ⟨41, _⟩ => ⟨S1x1, .i32⟩
  | .hbm, ⟨42, _⟩ => ⟨S10000x1, .i32⟩
  | .hbm, ⟨43, _⟩ => ⟨S10000x1, .i1⟩
  | .hbm, ⟨44, _⟩ => ⟨S10000x1, .i1⟩
  | .hbm, ⟨45, _⟩ => ⟨S_, .i1⟩
  | .hbm, ⟨46, _⟩ => ⟨S10000, .i1⟩
  | .hbm, ⟨47, _⟩ => ⟨S10000x128, .f32⟩
  | .hbm, ⟨48, _⟩ => ⟨S10000x128, .i1⟩
  | .hbm, ⟨49, _⟩ => ⟨S_, .f32⟩
  | .hbm, ⟨50, _⟩ => ⟨S10000x128, .f32⟩
  | .hbm, ⟨51, _⟩ => ⟨S10000x128, .f32⟩
  | .hbm, ⟨52, _⟩ => ⟨S128x128, .f32⟩
  | .hbm, ⟨53, _⟩ => ⟨S10000x128, .f32⟩
  | .hbm, ⟨54, _⟩ => ⟨S1x128, .f32⟩
  | .hbm, ⟨55, _⟩ => ⟨S10000x128, .f32⟩
  | .hbm, ⟨56, _⟩ => ⟨S10000x128, .f32⟩
  | .hbm, ⟨57, _⟩ => ⟨S_, .f32⟩
  | .hbm, ⟨58, _⟩ => ⟨S10000x128, .f32⟩
  | .hbm, ⟨59, _⟩ => ⟨S10000x128, .f32⟩
  | .hbm, ⟨60, _⟩ => ⟨S10000x128, .f32⟩
  | .hbm, ⟨61, _⟩ => ⟨S128x128, .f32⟩
  | .hbm, ⟨62, _⟩ => ⟨S10000x128, .f32⟩
  | .hbm, ⟨63, _⟩ => ⟨S1x128, .f32⟩
  | .hbm, ⟨64, _⟩ => ⟨S10000x128, .f32⟩
  | .hbm, ⟨65, _⟩ => ⟨S10000x128, .f32⟩
  | .hbm, ⟨66, _⟩ => ⟨S_, .f32⟩
  | .hbm, ⟨67, _⟩ => ⟨S10000x128, .f32⟩
  | .hbm, ⟨68, _⟩ => ⟨S10000x128, .f32⟩
  | .hbm, ⟨69, _⟩ => ⟨S10000x128, .f32⟩
  | .hbm, ⟨70, _⟩ => ⟨S128x10000, .f32⟩
  | .hbm, ⟨71, _⟩ => ⟨S10000x10000, .f32⟩
  | .hbm, ⟨72, _⟩ => ⟨S128x10000, .f32⟩
  | .hbm, ⟨73, _⟩ => ⟨S10000x10000, .f32⟩
  | .hbm, ⟨74, _⟩ => ⟨S10000x10000, .f32⟩
  | .hbm, ⟨75, _⟩ => ⟨S_, .f32⟩
  | .hbm, ⟨76, _⟩ => ⟨S10000x10000, .f32⟩
  | .hbm, ⟨77, _⟩ => ⟨S10000x10000, .f32⟩
  | .hbm, ⟨78, _⟩ => ⟨S10000, .i32⟩
  | .hbm, ⟨79, _⟩ => ⟨S10000x1, .i32⟩
  | .hbm, ⟨80, _⟩ => ⟨S1x10000, .i32⟩
  | .hbm, ⟨81, _⟩ => ⟨S10000x10000, .i32⟩
  | .hbm, ⟨82, _⟩ => ⟨S10000x10000, .i32⟩
  | .hbm, ⟨83, _⟩ => ⟨S10000x10000, .i1⟩
  | .hbm, ⟨84, _⟩ => ⟨S_, .f32⟩
  | .hbm, ⟨85, _⟩ => ⟨S_, .f32⟩
  | .hbm, ⟨86, _⟩ => ⟨S10000x10000, .f32⟩
  | .hbm, ⟨87, _⟩ => ⟨S10000x10000, .f32⟩
  | .hbm, ⟨88, _⟩ => ⟨S10000x10000, .f32⟩
  | .hbm, ⟨89, _⟩ => ⟨S_, .f32⟩
  | .hbm, ⟨90, _⟩ => ⟨S10000x10000, .f32⟩
  | .hbm, ⟨91, _⟩ => ⟨S10000x10000, .f32⟩
  | .hbm, ⟨92, _⟩ => ⟨S10000x10000, .f32⟩
  | .hbm, ⟨93, _⟩ => ⟨S_, .f32⟩
  | .hbm, ⟨94, _⟩ => ⟨S10000x10000, .f32⟩
  | .hbm, ⟨95, _⟩ => ⟨S10000x10000, .f32⟩
  | .hbm, ⟨96, _⟩ => ⟨S10000x10, .f32⟩
  | .hbm, ⟨97, _⟩ => ⟨S10000x10, .i32⟩
  | .hbm, ⟨98, _⟩ => ⟨S_, .f32⟩
  | .hbm, ⟨99, _⟩ => ⟨S10000x10000, .f32⟩
  | .hbm, ⟨100, _⟩ => ⟨S10000, .i32⟩
  | .hbm, ⟨101, _⟩ => ⟨S10000x1, .i32⟩
  | .hbm, ⟨102, _⟩ => ⟨S_, .i32⟩
  | .hbm, ⟨103, _⟩ => ⟨S10000x1, .i32⟩
  | .hbm, ⟨104, _⟩ => ⟨S10000x1, .i1⟩
  | .hbm, ⟨105, _⟩ => ⟨S_, .i32⟩
  | .hbm, ⟨106, _⟩ => ⟨S10000x1, .i32⟩
  | .hbm, ⟨107, _⟩ => ⟨S10000x1, .i32⟩
  | .hbm, ⟨108, _⟩ => ⟨S10000x1, .i32⟩
  | .hbm, ⟨109, _⟩ => ⟨S_, .i32⟩
  | .hbm, ⟨110, _⟩ => ⟨S10000x10, .i32⟩
  | .hbm, ⟨111, _⟩ => ⟨S10000x10, .i1⟩
  | .hbm, ⟨112, _⟩ => ⟨S_, .i32⟩
  | .hbm, ⟨113, _⟩ => ⟨S10000x10, .i32⟩
  | .hbm, ⟨114, _⟩ => ⟨S10000x10, .i32⟩
  | .hbm, ⟨115, _⟩ => ⟨S10000x10, .i32⟩
  | .hbm, ⟨116, _⟩ => ⟨S10000x10, .i32⟩
  | .hbm, ⟨117, _⟩ => ⟨S10000x10x1, .i32⟩
  | .hbm, ⟨118, _⟩ => ⟨S10000x10x1, .i32⟩
  | .hbm, ⟨119, _⟩ => ⟨S10000x10x2, .i32⟩
  | .hbm, ⟨120, _⟩ => ⟨S_, .f32⟩
  | .hbm, ⟨121, _⟩ => ⟨S10000x10, .f32⟩
  | .hbm, ⟨122, _⟩ => ⟨S10000x10000, .f32⟩
  | .hbm, ⟨123, _⟩ => ⟨S10000x10000, .f32⟩
  | _, _ => ⟨S10000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_cst : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_cst_0 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_cst_1 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_cst_2 : Ref sig .tc := ⟨.hbm, 84, rfl⟩
abbrev main_call2_v0 : Ref sig .tc := ⟨.hbm, 85, rfl⟩
abbrev main_call2_v1 : Ref sig .tc := ⟨.hbm, 86, rfl⟩
abbrev main_v31 : Ref sig .tc := ⟨.hbm, 87, rfl⟩
abbrev main_v32 : Ref sig .tc := ⟨.hbm, 88, rfl⟩
abbrev main_cst_3 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_call3_cst : Ref sig .tc := ⟨.hbm, 93, rfl⟩
abbrev main_call3_v0 : Ref sig .tc := ⟨.hbm, 94, rfl⟩
abbrev main_v36 : Ref sig .tc := ⟨.hbm, 95, rfl⟩
abbrev main_values : Ref sig .tc := ⟨.hbm, 96, rfl⟩
abbrev main_indices : Ref sig .tc := ⟨.hbm, 97, rfl⟩
abbrev main_cst_4 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_c : Ref sig .tc := ⟨.hbm, 102, rfl⟩
abbrev main_v40 : Ref sig .tc := ⟨.hbm, 103, rfl⟩
abbrev main_v41 : Ref sig .tc := ⟨.hbm, 104, rfl⟩
abbrev main_c_5 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_c_6 : Ref sig .tc := ⟨.hbm, 109, rfl⟩
abbrev main_v45 : Ref sig .tc := ⟨.hbm, 110, rfl⟩
abbrev main_v46 : Ref sig .tc := ⟨.hbm, 111, rfl⟩
abbrev main_c_7 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_cst_8 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩

abbrev nD : Nat := 1
abbrev τ : Topo := Topo.v7x

variable {F : FTy → Type} [FloatOps F]
-- ==== Proof.Rounds.lean ====
/-
  THE FIRST FEW OF A ROW, TAKEN ONE AT A TIME. A round picks the lowest position of the row's maximum and puts −1 there. On a row without
  negative entries, the positions picked in the first `k` rounds are the first `k` of the row's stable descending sort, in order, and they are
  exactly the positions at which the row left by the rounds is negative. Nothing here names a program.
-/
module

public import Idealize.ShloMosaic.PureOps.Ideal
public import Idealize.ShloMosaic.Lib.SortPrefix

@[expose] public section

noncomputable section

namespace Cert.Rounds

open Idealize.ShloMosaic

variable {n : ℕ}

/-! ## A round -/

/-- The row holds its maximum at `j`, and at no earlier position. -/
def IsFirstMax (w : Fin n → EReal) (j : Fin n) : Prop := (∀ c, w c ≤ w j) ∧ ∀ c, w c = w j → j ≤ c

/-- A row that has a position has such a one. -/
theorem exists_isFirstMax [NeZero n] (w : Fin n → EReal) : ∃ j, IsFirstMax w j := by
  obtain ⟨m, -, hm⟩ := Finset.exists_max_image (Finset.univ : Finset (Fin n)) w ⟨0, Finset.mem_univ _⟩
  obtain ⟨j, hj, hmin⟩ := Finset.exists_min_image (Finset.univ.filter fun c => w c = w m) id ⟨m, by simp⟩
  have hjm : w j = w m := (Finset.mem_filter.1 hj).2
  refine ⟨j, fun c => (hm c (Finset.mem_univ _)).trans hjm.ge, fun c hc => hmin c ?_⟩
  simp [hc.trans hjm]

/-- The lowest position of the row's maximum. -/
def pick [NeZero n] (w : Fin n → EReal) : Fin n := (exists_isFirstMax w).choose

theorem pick_spec [NeZero n] (w : Fin n → EReal) : IsFirstMax w (pick w) := (exists_isFirstMax w).choose_spec

/-- There is only one. -/
theorem IsFirstMax.eq_pick [NeZero n] {w : Fin n → EReal} {j : Fin n} (h : IsFirstMax w j) : j = pick w := by
  have hp := pick_spec w
  have e : w j = w (pick w) := le_antisymm (hp.1 j) (h.1 _)
  exact le_antisymm (h.2 _ e.symm) (hp.2 _ e)

/-- The row after a round. -/
def next [NeZero n] (w : Fin n → EReal) : Fin n → EReal := fun c => if c = pick w then -1 else w c

/-- The row after `r` rounds. -/
def after [NeZero n] (a : Fin n → EReal) (r : ℕ) : Fin n → EReal := next^[r] a

/-- The position picked in round `r`. -/
def picked [NeZero n] (a : Fin n → EReal) (r : ℕ) : Fin n := pick (after a r)

theorem after_succ [NeZero n] (a : Fin n → EReal) (r : ℕ) (c : Fin n) :
    after a (r + 1) c = if c = picked a r then -1 else after a r c := by
  unfold after picked
  rw [Function.iterate_succ_apply']
  rfl

/-- After `r` rounds the row is −1 at the positions picked so far and as it was elsewhere. -/
theorem after_of_not_picked [NeZero n] (a : Fin n → EReal) (c : Fin n) (r : ℕ) (h : ∀ q < r, picked a q ≠ c) : after a r c = a c := by
  induction r with
  | zero => rfl
  | succ r ih =>
    rw [after_succ, if_neg fun e => h r (Nat.lt_succ_self r) e.symm]
    exact ih fun q hq => h q (Nat.lt_succ_of_lt hq)

theorem after_of_picked [NeZero n] (a : Fin n → EReal) (c : Fin n) (r : ℕ) (h : ∃ q < r, picked a q = c) : after a r c = -1 := by
  induction r with
  | zero => obtain ⟨q, hq, -⟩ := h; exact absurd hq (Nat.not_lt_zero q)
  | succ r ih =>
    rw [after_succ]
    split
    · rfl
    · rename_i hne
      obtain ⟨q, hq, e⟩ := h
      refine ih ⟨q, lt_of_le_of_ne (Nat.le_of_lt_succ hq) ?_, e⟩
      rintro rfl
      exact hne e.symm

theorem neg_one_lt_zero : (-1 : EReal) < 0 := by
  have h : ((-1 : ℝ) : EReal) < ((0 : ℝ) : EReal) := EReal.coe_lt_coe_iff.2 (by norm_num)
  simpa using h

/-- On a row without negative entries, the row after `r` rounds is negative exactly at the positions picked. -/
theorem after_neg_iff [NeZero n] (a : Fin n → EReal) (ha : ∀ c, 0 ≤ a c) (r : ℕ) (c : Fin n) :
    after a r c < 0 ↔ ∃ q < r, picked a q = c := by
  constructor
  · intro h
    by_contra hne
    push Not at hne
    rw [after_of_not_picked a c r hne] at h
    exact absurd h (not_lt.2 (ha c))
  · intro h
    rw [after_of_picked a c r h]
    exact neg_one_lt_zero

/-- In a round before the `n`-th some position is still free. -/
theorem exists_free [NeZero n] (a : Fin n → EReal) (r : ℕ) (hr : r < n) : ∃ c, ∀ q < r, picked a q ≠ c := by
  by_contra hne
  push Not at hne
  have hsub : (Finset.univ : Finset (Fin n)) ⊆ (Finset.range r).image (picked a) := fun c _ => by
    obtain ⟨q, hq, e⟩ := hne c
    exact Finset.mem_image.2 ⟨q, Finset.mem_range.2 hq, e⟩
  have := (Finset.card_le_card hsub).trans Finset.card_image_le
  rw [Finset.card_univ, Fintype.card_fin, Finset.card_range] at this
  omega

/-- On a row without negative entries, the first `n` rounds pick different positions. -/
theorem picked_ne [NeZero n] (a : Fin n → EReal) (ha : ∀ c, 0 ≤ a c) (r : ℕ) (hr : r < n) (q : ℕ) (hq : q < r) : picked a q ≠ picked a r := by
  intro e
  obtain ⟨c, hc⟩ := exists_free a r hr
  have h1 : after a r (picked a r) = -1 := after_of_picked a _ r ⟨q, hq, e⟩
  have h2 : after a r c ≤ after a r (picked a r) := (pick_spec (after a r)).1 c
  rw [h1, after_of_not_picked a c r hc] at h2
  exact absurd ((ha c).trans h2) (not_le.2 neg_one_lt_zero)

/-! ## The stable descending sort -/

/-- Greater first, and of equals the earlier position. -/
def before (a : Fin n → EReal) (k k' : Fin n) : Bool :=
  (fun x y : EReal => decide (y < x)) (a k) (a k') || (decide (a k = a k') && decide (k < k'))

theorem strictTotalBefore_before (a : Fin n → EReal) : StrictTotalBefore (before a) :=
  StrictTotalBefore.of_key_then_position (fun x y : EReal => decide (y < x)) a (fun x => by simp)
    (fun x y z hxy hyz => by
      simp only [decide_eq_true_eq] at hxy hyz ⊢
      exact hyz.trans hxy)
    (fun x y => by
      simp only [decide_eq_true_eq]
      rcases lt_trichotomy x y with h | h | h
      · exact Or.inr (Or.inr h)
      · exact Or.inr (Or.inl h)
      · exact Or.inl h)

/-- A stable sort of ascending positions by the values alone is the sort by the values and then the positions. -/
theorem stableSort_eq_before (a : Fin n → EReal) (l : List (Fin n)) (hl : l.Pairwise (· < ·)) :
    stableSort (fun k k' => decide (a k' < a k)) l = stableSort (before a) l := by
  induction l with
  | nil => rfl
  | cons x l ih =>
    rw [List.pairwise_cons] at hl
    unfold stableSort
    rw [ih hl.2]
    refine insertBefore_congr _ _ x _ fun b hb => ?_
    have hx : x < b := hl.1 b ((perm_stableSort _ l).mem_iff.1 hb)
    simp [before, not_lt.2 hx.le]

theorem sortedFrom_eq_before (a : Fin n → EReal) (k : Fin n) :
    sortedFrom (fun k k' => decide (a k' < a k)) k = sortedFrom (before a) k := by
  unfold sortedFrom
  rw [List.get_of_eq (show sortPositions n (fun k k' => decide (a k' < a k)) = sortPositions n (before a) from
    stableSort_eq_before a _ (List.pairwise_lt_finRange n))]
  rfl

/-- Nothing that is free in round `r` sorts before the position the round picks. -/
theorem not_before_picked [NeZero n] (a : Fin n → EReal) (ha : ∀ c, 0 ≤ a c) (r : ℕ) (hr : r < n) (p : Fin n)
    (hp : ∀ q < r, picked a q ≠ p) : before a p (picked a r) = false := by
  have hs := pick_spec (after a r)
  have e1 : after a r p = a p := after_of_not_picked a p r hp
  have e2 : after a r (picked a r) = a (picked a r) := after_of_not_picked a _ r fun q hq => picked_ne a ha r hr q hq
  have h1 : a p ≤ a (picked a r) := by rw [← e1, ← e2]; exact hs.1 p
  have h2 : a p = a (picked a r) → picked a r ≤ p := fun e => hs.2 p (by rw [e1, e, ← e2]; rfl)
  unfold before
  simp only [Bool.or_eq_false_iff, Bool.and_eq_false_iff, decide_eq_false_iff_not, not_lt]
  refine ⟨h1, ?_⟩
  by_cases e : a p = a (picked a r)
  · exact Or.inr (h2 e)
  · exact Or.inl e

/-- THE `r`-TH OF THE SORT IS THE `r`-TH PICK, on a row without negative entries. -/
theorem sortedFrom_eq_picked [NeZero n] (a : Fin n → EReal) (ha : ∀ c, 0 ≤ a c) (r : Fin n) :
    sortedFrom (fun k k' => decide (a k' < a k)) r = picked a r.val := by
  rw [sortedFrom_eq_before]
  refine (strictTotalBefore_before a).sortedFrom_eq_of_prefix le_rfl (fun i : Fin n => picked a i.val) ?_ ?_ ?_ r
  · intro i j e
    rcases lt_trichotomy i j with h | h | h
    · exact absurd e (picked_ne a ha j.val j.isLt i.val h)
    · exact h
    · exact absurd e.symm (picked_ne a ha i.val i.isLt j.val h)
  · intro i j hij
    exact not_before_picked a ha i.val i.isLt _ fun q hq => picked_ne a ha j.val j.isLt q (hq.trans hij)
  · intro i p hp
    exact not_before_picked a ha i.val i.isLt p fun q hq => hp ⟨q, hq.trans i.isLt⟩

end Cert.Rounds
-- ==== Proof.Consts.lean ====
/-
  The float literals of the two programs, as the extended reals they denote. (One module, so that no other one unfolds a bit pattern.)
-/
module

public import Idealize.ShloMosaic.PureOps.Ideal

@[expose] public section

noncomputable section

namespace Cert.Consts

open Idealize.ShloMosaic

/-- The pattern of −∞ is the least extended real. -/
theorem lit_bot : FloatOps.ofBits (F := Ideal) .f32 0xFF800000#32 = (⊥ : EReal) := by
  show Ideal.ofBits .f32 0xFF800000#32 = ⊥
  simp [Ideal.ofBits, Ideal.ieee]

/-- The pattern of +∞ is the greatest. -/
theorem lit_top : FloatOps.ofBits (F := Ideal) .f32 0x7F800000#32 = (⊤ : EReal) := by
  show Ideal.ofBits .f32 0x7F800000#32 = ⊤
  simp [Ideal.ofBits, Ideal.ieee]

/-- 2²⁴. -/
theorem lit_big : FloatOps.ofBits (F := Ideal) .f32 0x4B800000#32 = ((16777216 : ℝ) : EReal) := by
  show Ideal.ofBits .f32 0x4B800000#32 = _
  simp [Ideal.ofBits, Ideal.ieee, -EReal.coe_mul]; norm_num

/-- −1. -/
theorem lit_neg_one : FloatOps.ofBits (F := Ideal) .f32 0xBF800000#32 = (-1 : EReal) := by
  show Ideal.ofBits .f32 0xBF800000#32 = _
  have h : (-1 : EReal) = ((-1 : ℝ) : EReal) := by simp
  rw [h]
  simp [Ideal.ofBits, Ideal.ieee, -EReal.coe_mul, -EReal.coe_neg, -EReal.coe_one]; try norm_num

/-- 0. -/
theorem lit_zero : FloatOps.ofBits (F := Ideal) .f32 0x00000000#32 = (0 : EReal) := by
  show Ideal.ofBits .f32 0x00000000#32 = _
  simp [Ideal.ofBits, Ideal.ieee]

/-- 1. -/
theorem lit_one : FloatOps.ofBits (F := Ideal) .f32 0x3F800000#32 = (1 : EReal) := by
  show Ideal.ofBits .f32 0x3F800000#32 = _
  rw [← EReal.coe_one]
  simp [Ideal.ofBits, Ideal.ieee, -EReal.coe_mul, -EReal.coe_one]; try norm_num

/-- 3. -/
theorem lit_three : FloatOps.ofBits (F := Ideal) .f32 0x40400000#32 = ((3 : ℝ) : EReal) := by
  show Ideal.ofBits .f32 0x40400000#32 = _
  simp [Ideal.ofBits, Ideal.ieee, -EReal.coe_mul]; norm_num

/-- 2. -/
theorem lit_two : FloatOps.ofBits (F := Ideal) .f32 0x40000000#32 = ((2 : ℝ) : EReal) := by
  show Ideal.ofBits .f32 0x40000000#32 = _
  simp [Ideal.ofBits, Ideal.ieee, -EReal.coe_mul]; try norm_num

/-- 3/2. -/
theorem lit_three_halves : FloatOps.ofBits (F := Ideal) .f32 0x3FC00000#32 = ((3 / 2 : ℝ) : EReal) := by
  show Ideal.ofBits .f32 0x3FC00000#32 = _
  simp [Ideal.ofBits, Ideal.ieee, -EReal.coe_mul]; norm_num

end Cert.Consts
-- ==== Proof.Steps.lean ====
/-
  THE KERNEL'S TEN ROUNDS, READ ROW BY ROW. The second region's stored block is: where ten rounds leave the scores negative the scores, elsewhere
  zero (`payload_eq`). A round on a block is, on each of its rows, the round of Rounds.lean (`row_step`).
-/
module

public import proofs.«01_k».proof.Proof.Gen.KernelIdeal.Frame
public import proofs.«01_k».proof.Proof.Rounds
public import proofs.«01_k».proof.Proof.Consts
public import Idealize.ShloMosaic.PureOps.Ideal.Laws
public import Idealize.ShloMosaic.Lib.ValueIdx
public import Idealize.ShloMosaic.Lib.ValueLayout
public import Idealize.ShloMosaic.Lib.ValueLayoutCasts
public import Idealize.ShloMosaic.Lib.Pipeline.Value
public import Idealize.ShloMosaic.Lib.WordArith

@[expose] public section

set_option maxRecDepth 16384

noncomputable section

namespace Cert.KernelIdeal.Steps

open Idealize.ShloMosaic Idealize.ShloMosaic.ValueIdx Cert.KernelIdeal.Gen Cert.Consts

/-! ## A round on a block -/

section Text
variable {F : FTy → Type} [FloatOps F]

/-- The rows' maxima, one a row. -/
def rowMax (w : FVec F S200x10000 .f32) : FVec F S200x1 .f32 :=
  shapeCast S200x1 (multiReduction .maximumf [1] S200 w 0xFF800000#32 reduces_S200x10000_S200 (.inl rfl) rfl) shapeCasts_S200_S200x1

/-- The lowest column, as a float, at which the block equals `m`'s entry for the row (2²⁴ if there is none). -/
def lowest (w : FVec F S200x10000 .f32) (m : FVec F S200x1 .f32) : FVec F S200x1 .f32 :=
  shapeCast S200x1 (multiReduction .minimumf [1] S200
    (select (cmpf .oeq w (broadcastTo S200x10000 m broadcasts_S200x1_S200x10000)) (k1_pay2 (F := F))
      (broadcast S200x10000 (Scalar.ofBits .f32 0x4B800000#32)))
    0x7F800000#32 reduces_S200x10000_S200 (.inl rfl) rfl) shapeCasts_S200_S200x1

/-- The block with −1 in each row's column `j`. -/
def mark (w : FVec F S200x10000 .f32) (j : FVec F S200x1 .f32) : FVec F S200x10000 .f32 :=
  select (cmpf .oeq (k1_pay2 (F := F)) (broadcastTo S200x10000 j broadcasts_S200x1_S200x10000))
    (broadcast S200x10000 (Scalar.ofBits .f32 0xBF800000#32)) w

/-- A round: −1 in each row's lowest column of the row's maximum. -/
def step (w : FVec F S200x10000 .f32) : FVec F S200x10000 .f32 := mark w (lowest w (rowMax w))

/-- What is stored: `v` where `w` is negative, zero elsewhere. -/
def keep (w v : FVec F S200x10000 .f32) : FVec F S200x10000 .f32 :=
  select (cmpf .olt w (broadcast S200x10000 (Scalar.ofBits .f32 0x00000000#32))) v (broadcast S200x10000 (Scalar.ofBits .f32 0x00000000#32))

/-! ## The printed pieces are rounds -/

theorem pay4_eq (i : grid1.Coords) (a : Vec F S200x128 .f32) (b : Vec F S10000x128 .f32) (c : Vec F S200x128 .f32) (d : Vec F S10000x128 .f32) :
    k1_pay4 i a b c d = step (k1_pay3 i a b c d) := rfl

theorem pay5_eq (i : grid1.Coords) (a : Vec F S200x128 .f32) (b : Vec F S10000x128 .f32) (c : Vec F S200x128 .f32) (d : Vec F S10000x128 .f32) :
    k1_pay5 i a b c d = rowMax (step (k1_pay3 i a b c d)) := rfl

theorem pay6_eq (w : FVec F S200x10000 .f32) : k1_pay6 (k1_pay2 (F := F)) w (rowMax w) = step (step (step w)) := rfl

theorem pay7_eq (w : FVec F S200x10000 .f32) :
    k1_pay7 (k1_pay2 (F := F)) w (rowMax w)
      = cmpf .oeq (k1_pay2 (F := F)) (broadcastTo S200x10000 (lowest (step (step (step w))) (rowMax (step (step (step w))))) broadcasts_S200x1_S200x10000) := rfl

theorem pay9_eq (w : FVec F S200x10000 .f32) :
    k1_pay9 (k1_pay2 (F := F)) w (cmpf .oeq (k1_pay2 (F := F)) (broadcastTo S200x10000 (lowest w (rowMax w)) broadcasts_S200x1_S200x10000)) (k1_pay8 (F := F))
      = step (step (step (step w))) := rfl

theorem pay10_eq (w : FVec F S200x10000 .f32) :
    k1_pay10 (k1_pay2 (F := F)) w (cmpf .oeq (k1_pay2 (F := F)) (broadcastTo S200x10000 (lowest w (rowMax w)) broadcasts_S200x1_S200x10000)) (k1_pay8 (F := F))
      = lowest (step (step (step (step w)))) (rowMax (step (step (step (step w))))) := rfl

theorem pay1_eq (v w : FVec F S200x10000 .f32) :
    k1_pay1 (k1_pay2 (F := F)) v w (lowest w (rowMax w)) = keep (step (step w)) v := rfl

/-- THE STORED BLOCK is the scores where ten rounds leave them negative, zero elsewhere. -/
theorem out_eq (i : grid1.Coords) (x0 x1 : Vec F S200x128 .f32) (x2 x3 : Vec F S10000x128 .f32) :
    out1_4 i x0 x1 x2 x3
      = View.canon [⟨r1_2, keep (step^[10] (k1_pay3 i (View.ld x0 r1_0) (View.ld x3 r1_1) (View.ld x1 r1_0) (View.ld x2 r1_1)))
          (k1_pay3 i (View.ld x0 r1_0) (View.ld x3 r1_1) (View.ld x1 r1_0) (View.ld x2 r1_1))⟩] := by
  unfold out1_4 k1_pay15 k1_pay16 k1_pay14 k1_pay13 k1_pay12 k1_pay11
  rw [pay4_eq, pay5_eq, pay6_eq, pay7_eq, pay9_eq, pay10_eq, pay1_eq]
  rfl

end Text

/-! ## A round at a row -/

/-- Row `p` of a block. -/
def row (w : FVec Ideal S200x10000 .f32) (p : Fin 200) : Fin 10000 → EReal := fun c => w (ix2 p c)

theorem row_apply (w : FVec Ideal S200x10000 .f32) (p : Fin 200) (c : Fin 10000) : row w p c = w (ix2 p c) := rfl

/-- A vector of one entry a row, stretched along the rows, at a place. -/
theorem stretch_apply {α : Type} (x : S200x1.Idx → α) (h : S200x1.Broadcasts S200x10000) (p : Fin 200) (c : Fin 10000) :
    broadcastTo S200x10000 x h (ix2 p c) = x (ix2 p (0 : Fin 1)) := by
  refine broadcastTo_apply x h (ix2 p c) (ix2 p (0 : Fin 1)) fun ax => ?_
  match ax with
  | ⟨0, _⟩ => rfl
  | ⟨1, _⟩ => rfl

/-- A row's place in the block, from its row and column. -/
theorem lift_eq (h : S200x10000.Reduces [1] S200) (p : Fin 200) (c : Fin 10000) : h.lift (ix1 p) c = ix2 p c := by
  funext d
  match d with
  | ⟨0, _⟩ => rfl
  | ⟨1, _⟩ => rfl

/-- The maximum of a row is its entry at the pick. -/
theorem fold_max (f : Fin 10000 → EReal) : (Finset.univ : Finset (Fin 10000)).fold max ⊥ f = f (Cert.Rounds.pick f) :=
  le_antisymm (Finset.fold_max_le _ |>.2 ⟨bot_le, fun c _ => (Cert.Rounds.pick_spec f).1 c⟩)
    (Finset.le_fold_max _ |>.2 (Or.inr ⟨Cert.Rounds.pick f, Finset.mem_univ _, le_rfl⟩))

/-- The least candidate is the pick's number, when the candidates are the columns of the row's maximum. -/
theorem fold_min (f : Fin 10000 → EReal) :
    (Finset.univ : Finset (Fin 10000)).fold min ⊤
        (fun c => if f c = f (Cert.Rounds.pick f) then (((c.val : ℕ) : ℝ) : EReal) else ((16777216 : ℝ) : EReal))
      = (((Cert.Rounds.pick f).val : ℝ) : EReal) := by
  refine le_antisymm (Finset.fold_min_le _ |>.2 (Or.inr ⟨Cert.Rounds.pick f, Finset.mem_univ _, (if_pos rfl).le⟩))
    (Finset.le_fold_min _ |>.2 ⟨le_top, fun c _ => ?_⟩)
  split
  · rename_i e
    have := (Cert.Rounds.pick_spec f).2 c e
    exact EReal.coe_le_coe_iff.2 (by exact_mod_cast this)
  · refine EReal.coe_le_coe_iff.2 ?_
    have : (Cert.Rounds.pick f).val ≤ 16777216 := by have := (Cert.Rounds.pick f).isLt; omega
    exact_mod_cast this

theorem rowMax_apply (w : FVec Ideal S200x10000 .f32) (p : Fin 200) :
    rowMax w (ix2 p (0 : Fin 1)) = row w p (Cert.Rounds.pick (row w p)) := by
  unfold rowMax
  refine (shapeCast_a_a1_apply _ _ _ _).trans ((Ideal.multiReduction_maximumf_single w _ _ _ _ (ix1 p)).trans (Eq.trans ?_ (fold_max (row w p))))
  rw [lit_bot]
  exact congrArg (fun f : Fin 10000 → EReal => (Finset.univ : Finset (Fin 10000)).fold max ⊥ f) (funext fun c => congrArg w (lift_eq _ p c))

/-- The column numbers, as floats. -/
theorem cols_apply (p : Fin 200) (c : Fin 10000) : k1_pay2 (F := Ideal) (ix2 p c) = (((c.val : ℕ) : ℝ) : EReal) := by
  show FloatOps.sitofp (F := Ideal) .f32 (iota .tc S200x10000 32 [1] iota_S200x10000_d1_w32 (ix2 p c)) = _
  rw [iota_single_apply]
  show (((BitVec.ofNat 32 c.val).toInt : ℝ) : EReal) = _
  rw [WordArith.toInt_ofNat_small c.val (by have := c.isLt; omega)]
  norm_cast

theorem cmpf_oeq (x y : Ideal .f32) : FloatOps.cmpf .oeq x y = BitVec.ofBool (decide ((x : EReal) = (y : EReal))) := rfl

theorem cmpf_olt (x y : Ideal .f32) : FloatOps.cmpf .olt x y = BitVec.ofBool (decide ((x : EReal) < (y : EReal))) := rfl

theorem select_ofBool {α : Type} (P : Prop) [Decidable P] (x y : α) : Scalar.select (BitVec.ofBool (decide P)) x y = if P then x else y := by
  by_cases h : P
  · rw [if_pos h, decide_eq_true h]; rfl
  · rw [if_neg h, decide_eq_false h]; rfl

/-- The candidates of a row: a column where the row has its maximum, 2²⁴ elsewhere. -/
theorem cand_apply (w : FVec Ideal S200x10000 .f32) (p : Fin 200) (c : Fin 10000) :
    select (cmpf .oeq w (broadcastTo S200x10000 (rowMax w) broadcasts_S200x1_S200x10000)) (k1_pay2 (F := Ideal))
      (broadcast S200x10000 (Scalar.ofBits .f32 0x4B800000#32)) (ix2 p c)
      = if row w p c = row w p (Cert.Rounds.pick (row w p)) then (((c.val : ℕ) : ℝ) : EReal) else ((16777216 : ℝ) : EReal) := by
  rw [select_apply, cmpf_apply, broadcast_apply, stretch_apply, rowMax_apply, cols_apply, cmpf_oeq, select_ofBool, lit_big]
  rfl

theorem lowest_apply (w : FVec Ideal S200x10000 .f32) (p : Fin 200) :
    lowest w (rowMax w) (ix2 p (0 : Fin 1)) = (((Cert.Rounds.pick (row w p)).val : ℝ) : EReal) := by
  unfold lowest
  refine (shapeCast_a_a1_apply _ _ _ _).trans ((multiReduction_minimumf_eq_fold _ _ reduces_S200x10000_S200 _ _ (ix1 p)).trans
    ((Shape.Reduces.fold_filter_drop_single reduces_S200x10000_S200 _ _ _ (ix1 p)).trans (Eq.trans ?_ (fold_min (row w p)))))
  rw [lit_top]
  exact congrArg (fun f : Fin 10000 → EReal => (Finset.univ : Finset (Fin 10000)).fold min ⊤ f)
    (funext fun c => (congrArg _ (lift_eq _ p c)).trans (cand_apply w p c))

/-- A ROUND ON THE BLOCK IS A ROUND ON EACH ROW. -/
theorem row_step (w : FVec Ideal S200x10000 .f32) (p : Fin 200) : row (step w) p = Cert.Rounds.next (row w p) := by
  funext c
  rw [row_apply]
  unfold step mark
  rw [select_apply, cmpf_apply, broadcast_apply, stretch_apply, cols_apply, lowest_apply, cmpf_oeq, select_ofBool, lit_neg_one, ← row_apply w]
  unfold Cert.Rounds.next
  refine if_congr ?_ rfl rfl
  rw [EReal.coe_eq_coe_iff, Nat.cast_inj, Fin.ext_iff]

theorem row_iterate (v : FVec Ideal S200x10000 .f32) (p : Fin 200) (r : ℕ) : row (step^[r] v) p = Cert.Rounds.after (row v p) r := by
  induction r with
  | zero => rfl
  | succ r ih =>
    unfold Cert.Rounds.after at ih ⊢
    rw [Function.iterate_succ_apply', Function.iterate_succ_apply', row_step, ih]

/-- The stored block at a place: the score where its column is one of the row's ten picks, zero elsewhere. -/
theorem keep_apply (v : FVec Ideal S200x10000 .f32) (p : Fin 200) (c : Fin 10000) :
    keep (step^[10] v) v (ix2 p c) = if Cert.Rounds.after (row v p) 10 c < 0 then v (ix2 p c) else 0 := by
  generalize hw : step^[10] v = w
  unfold keep
  rw [select_apply, cmpf_apply, broadcast_apply, lit_zero, cmpf_olt, select_ofBool, ← row_apply w, ← hw, row_iterate]

end Cert.KernelIdeal.Steps
-- ==== Proof.Spec.lean ====
/-
  WHAT THE TWO RESULTS ARE, AS MATHEMATICS OVER THE EXTENDED REALS: an array of vectors is tanh of three times a linear map plus a bias (`vec`);
  the score of two nodes is zero on the diagonal and off it the positive part of tanh (3/2 (v₁ᵢ·v₂ⱼ + v₂ᵢ·v₁ⱼ)) (`score`); the first result keeps
  of every row the ten scores that ten rounds of Rounds.lean pick (`best`).
-/
module

public import proofs.«01_k».proof.Proof.Rounds
public import Idealize.ShloMosaic.PureOps.Ideal.Laws

@[expose] public section

noncomputable section

namespace Cert.Spec

open Idealize.ShloMosaic

/-- Entry `(i, j)` of tanh (3 (x Wᵀ + b)). -/
def vec (x : Fin 10000 → Fin 128 → EReal) (W : Fin 128 → Fin 128 → EReal) (b : Fin 128 → EReal) (i : Fin 10000) (j : Fin 128) : EReal :=
  Ideal.tanh (((3 : ℝ) : EReal) * ((∑ k : Fin 128, x i k * W j k) + b j))

/-- The sum of the two products of nodes `i` and `j`. -/
def pair (v w : Fin 10000 → Fin 128 → EReal) (i j : Fin 10000) : EReal :=
  (∑ k : Fin 128, v i k * w j k) + ∑ k : Fin 128, w i k * v j k

/-- The score of nodes `i` and `j`. -/
def score (v w : Fin 10000 → Fin 128 → EReal) (i j : Fin 10000) : EReal :=
  if i = j then 0 else max (Ideal.tanh (((3 / 2 : ℝ) : EReal) * pair v w i j)) 0

/-- The scores with all but ten of every row zero. -/
def best (v w : Fin 10000 → Fin 128 → EReal) (i j : Fin 10000) : EReal :=
  if Cert.Rounds.after (score v w i) 10 j < 0 then score v w i j else 0

/-- No score is negative. -/
theorem score_nonneg (v w : Fin 10000 → Fin 128 → EReal) (i j : Fin 10000) : 0 ≤ score v w i j := by
  unfold score
  split
  · exact le_rfl
  · exact le_max_right _ _

end Cert.Spec

end
-- ==== Proof.Blocks.lean ====
/-
  WHAT A GRID POINT'S BODY COMPUTES, PLACE BY PLACE. The first region's two stored blocks are `vec` of the blocks it reads (`vecs_apply`,
  `vecs'_apply`); the second region's scores, at row `p` of point `i`'s block, are those of row 200 i + p (`scores_apply`).
-/
module

public import proofs.«01_k».proof.Proof.Steps
public import proofs.«01_k».proof.Proof.Spec
public import Idealize.ShloMosaic.Lib.MatmulPlain

@[expose] public section

set_option maxRecDepth 16384

noncomputable section

namespace Cert.KernelIdeal.Blocks

open Idealize.ShloMosaic Idealize.ShloMosaic.ValueIdx Cert.KernelIdeal.Gen Cert.Consts Cert.KernelIdeal.Steps

/-- The accumulator the products start from, at a place. -/
theorem zero_word {s : Shape} (i : s.Idx) : constant (F := Ideal) s .f32 0x00000000#32 i = (0 : EReal) := lit_zero

/-- The first region's product at a place: row `p` of the left with row `c` of the right. -/
theorem dot0_apply (x : FVec Ideal S10000x128 .f32) (W : FVec Ideal S128x128 .f32) (p : Fin 10000) (c : Fin 128) :
    FloatOps.matmul dot_S10000x128_S128x128_S10000x128_1_1_0_0_n_n none x W (constant S10000x128 .f32 0x00000000#32) (ix2 p c)
      = ∑ k : Fin 128, x (ix2 p k) * W (ix2 c k) := by
  refine (Ideal.matmul_transposedRhs_apply (M := 10000) (K := 128) (N := 128) none x W (constant S10000x128 .f32 0x00000000#32) p c).trans ?_
  rw [zero_word, zero_add]

/-- The second region's product at a place. -/
theorem dot1_apply (x : FVec Ideal S200x128 .f32) (W : FVec Ideal S10000x128 .f32) (p : Fin 200) (c : Fin 10000) :
    FloatOps.matmul dot_S200x128_S10000x128_S200x10000_1_1_0_0_n_n none x W (constant S200x10000 .f32 0x00000000#32) (ix2 p c)
      = ∑ k : Fin 128, x (ix2 p k) * W (ix2 c k) := by
  refine (Ideal.matmul_transposedRhs_apply (M := 200) (K := 128) (N := 10000) none x W (constant S200x10000 .f32 0x00000000#32) p c).trans ?_
  rw [zero_word, zero_add]

/-- The bias, repeated down the rows. -/
theorem bias_apply (b : FVec Ideal S1x128 .f32) (p : Fin 10000) (c : Fin 128) :
    broadcastTo S10000x128 (shapeCast S1x128 b shapeCasts_S1x128_S1x128) broadcasts_S1x128_S10000x128 (ix2 p c) = b (ix2 0 c) := by
  rw [shapeCast_self]
  exact broadcastTo_1b_ab_apply b broadcasts_S1x128_S10000x128 p c

/-- The first stored block of the first region at a place. -/
theorem vecs_apply (x : FVec Ideal S10000x128 .f32) (W : FVec Ideal S128x128 .f32) (b : FVec Ideal S1x128 .f32) (p : Fin 10000) (c : Fin 128) :
    k0_pay1 (F := Ideal) x W b (ix2 p c) = Cert.Spec.vec (fun i k => x (ix2 i k)) (fun j k => W (ix2 j k)) (fun j => b (ix2 0 j)) p c := by
  unfold k0_pay1 Cert.Spec.vec
  show Ideal.tanh (FloatOps.ofBits (F := Ideal) .f32 0x40400000#32 *
    (FloatOps.matmul dot_S10000x128_S128x128_S10000x128_1_1_0_0_n_n none x W (constant S10000x128 .f32 0x00000000#32) (ix2 p c) +
      broadcastTo S10000x128 (shapeCast S1x128 b shapeCasts_S1x128_S1x128) broadcasts_S1x128_S10000x128 (ix2 p c))) = _
  rw [dot0_apply, bias_apply, lit_three]

/-- The second stored block of the first region at a place. -/
theorem vecs'_apply (x : FVec Ideal S10000x128 .f32) (W : FVec Ideal S128x128 .f32) (b : FVec Ideal S1x128 .f32) (p : Fin 10000) (c : Fin 128) :
    k0_pay2 (F := Ideal) x W b (ix2 p c) = Cert.Spec.vec (fun i k => x (ix2 i k)) (fun j k => W (ix2 j k)) (fun j => b (ix2 0 j)) p c :=
  vecs_apply x W b p c

/-! ## The second region's scores -/

/-- The row number of place `p` of block `i`, as a float. -/
theorem rows_apply (i : grid1.Coords) (p : Fin 200) (c : Fin 10000) :
    FloatOps.sitofp (F := Ideal) .f32 (addi (broadcast S200x10000 (Scalar.muli (BitVec.ofNat 32 (i 0).val) 200#32))
      (iota .tc S200x10000 32 [0] iota_S200x10000_d0_w32) (ix2 p c)) = ((((i 0).val * 200 + p.val : ℕ) : ℝ) : EReal) := by
  have hi : (i 0).val < 50 := (i 0).isLt
  have e : addi (broadcast S200x10000 (Scalar.muli (BitVec.ofNat 32 (i 0).val) 200#32))
      (iota .tc S200x10000 32 [0] iota_S200x10000_d0_w32) (ix2 p c) = BitVec.ofNat 32 ((i 0).val * 200 + p.val) := by
    show BitVec.ofNat 32 (i 0).val * 200#32 + iota .tc S200x10000 32 [0] iota_S200x10000_d0_w32 (ix2 p c) = _
    rw [iota_single_apply]
    show BitVec.ofNat 32 (i 0).val * 200#32 + BitVec.ofNat 32 p.val = _
    rw [BitVec.ofNat_add, BitVec.ofNat_mul]
  rw [e]
  show ((((BitVec.ofNat 32 ((i 0).val * 200 + p.val)).toInt : ℝ)) : EReal) = _
  rw [WordArith.toInt_ofNat_small _ (by have := p.isLt; omega)]
  norm_cast

/-- The second region's scores at a place: zero where the column is the row's number, elsewhere the positive part of tanh. -/
theorem scores_apply (i : grid1.Coords) (a : FVec Ideal S200x128 .f32) (b : FVec Ideal S10000x128 .f32) (d : FVec Ideal S200x128 .f32)
    (e : FVec Ideal S10000x128 .f32) (p : Fin 200) (c : Fin 10000) :
    k1_pay3 (F := Ideal) i a b d e (ix2 p c) = if (i 0).val * 200 + p.val = c.val then 0 else
      max (Ideal.tanh (((3 / 2 : ℝ) : EReal) * ((∑ k : Fin 128, a (ix2 p k) * b (ix2 c k)) + ∑ k : Fin 128, d (ix2 p k) * e (ix2 c k)))) 0 := by
  unfold k1_pay3
  simp only [shapeCast_self]
  rw [select_apply, cmpf_apply, sitofp_apply, rows_apply, cols_apply, cmpf_oeq, select_ofBool]
  have hc : ((((c.val : ℕ) : ℝ) : EReal) = ((((i 0).val * 200 + p.val : ℕ) : ℝ) : EReal)) ↔ (i 0).val * 200 + p.val = c.val := by
    rw [EReal.coe_eq_coe_iff, Nat.cast_inj]; exact eq_comm
  simp only [hc]
  refine congrArg₂ (fun u v : EReal => if (i 0).val * 200 + p.val = c.val then u else v) ?_ ?_
  · exact lit_zero
  · show max (Ideal.tanh (FloatOps.ofBits (F := Ideal) .f32 0x3FC00000#32 *
      (FloatOps.matmul dot_S200x128_S10000x128_S200x10000_1_1_0_0_n_n none a b (constant S200x10000 .f32 0x00000000#32) (ix2 p c) +
        FloatOps.matmul dot_S200x128_S10000x128_S200x10000_1_1_0_0_n_n none d e (constant S200x10000 .f32 0x00000000#32) (ix2 p c))))
      (FloatOps.ofBits (F := Ideal) .f32 0x00000000#32) = _
    rw [dot1_apply, dot1_apply, lit_zero, lit_three_halves]

end Cert.KernelIdeal.Blocks

end
-- ==== Proof.Vectors.lean ====
/-
  THE TWO VECTOR ARRAYS AFTER THE FIRST REGION: `vec` of the entry contents of the arrays the region reads (`arr5`, `arr6`). The region
  has one point, whose block of every window is the whole array.
-/
module

public import proofs.«01_k».proof.Proof.Blocks
public import Idealize.ShloMosaic.Lib.Pipeline.ValueKit

@[expose] public section

set_option maxRecDepth 16384

noncomputable section

namespace Cert.KernelIdeal.Vectors

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks

/-- Every window is at block (0, 0) at the region's point. -/
theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)

/-- So a place of a window's block is the same place of its array. -/
theorem emb0 (t : Fin cfg0.N) (j : S10000x128.Idx) : ((cfg0.win 0).blk t).view.emb j = j := by blk_ext [index0]
theorem emb1 (t : Fin cfg0.N) (j : S128x128.Idx) : ((cfg0.win 1).blk t).view.emb j = j := by blk_ext [index1]
theorem emb2 (t : Fin cfg0.N) (j : S1x128.Idx) : ((cfg0.win 2).blk t).view.emb j = j := by blk_ext [index2]
theorem emb3 (t : Fin cfg0.N) (j : S128x128.Idx) : ((cfg0.win 3).blk t).view.emb j = j := by blk_ext [index3]
theorem emb4 (t : Fin cfg0.N) (j : S1x128.Idx) : ((cfg0.win 4).blk t).view.emb j = j := by blk_ext [index4]
theorem emb5 (t : Fin cfg0.N) (j : S10000x128.Idx) : ((cfg0.win 5).blk t).view.emb j = j := by blk_ext [index5]
theorem emb6 (t : Fin cfg0.N) (j : S10000x128.Idx) : ((cfg0.win 6).blk t).view.emb j = j := by blk_ext [index6]

section Reads
variable {F : FTy → Type} [FloatOps F]
variable (V : (c : Dev nD) → (b : Ref sig .tc) → Buf (Elt F) ((c : Thread nD τ).loc b))

/-- And an input window's block is its array as the region finds it. -/
theorem iblk0_0 (c : Dev nD) (t : Fin cfg0.N) : iblk0 V c 0 t = V c main_arg1 := by
  funext j; show V c main_arg1 (((cfg0.win 0).blk t).view.emb j) = V c main_arg1 j; rw [emb0]
theorem iblk0_1 (c : Dev nD) (t : Fin cfg0.N) : iblk0 V c 1 t = V c main_arg2 := by
  funext j; show V c main_arg2 (((cfg0.win 1).blk t).view.emb j) = V c main_arg2 j; rw [emb1]
theorem iblk0_2 (c : Dev nD) (t : Fin cfg0.N) : iblk0 V c 2 t = V c main_v0 := by
  funext j; show V c main_v0 (((cfg0.win 2).blk t).view.emb j) = V c main_v0 j; rw [emb2]
theorem iblk0_3 (c : Dev nD) (t : Fin cfg0.N) : iblk0 V c 3 t = V c main_arg4 := by
  funext j; show V c main_arg4 (((cfg0.win 3).blk t).view.emb j) = V c main_arg4 j; rw [emb3]
theorem iblk0_4 (c : Dev nD) (t : Fin cfg0.N) : iblk0 V c 4 t = V c main_v1 := by
  funext j; show V c main_v1 (((cfg0.win 4).blk t).view.emb j) = V c main_v1 j; rw [emb4]

theorem origin : (![0, 0] : Fin 2 → Nat) = fun _ => 0 := by decide

/-- The first stored block, spelt over the blocks read. -/
theorem out5_eq (x0 : Vec F S10000x128 .f32) (x1 : Vec F S128x128 .f32) (x2 : Vec F S1x128 .f32) (x3 : Vec F S128x128 .f32) (x4 : Vec F S1x128 .f32) :
    out0_5 x0 x1 x2 x3 x4 = k0_pay1 x0 x1 x2 := by
  unfold out0_5 r0_0 r0_1 r0_2
  rw [View.canon_unit_zero origin, View.ld_unit_zero (S := S10000x128) origin, View.ld_unit_zero (S := S128x128) origin,
    View.ld_unit_zero (S := S1x128) origin]

/-- The second stored block. -/
theorem out6_eq (x0 : Vec F S10000x128 .f32) (x1 : Vec F S128x128 .f32) (x2 : Vec F S1x128 .f32) (x3 : Vec F S128x128 .f32) (x4 : Vec F S1x128 .f32) :
    out0_6 x0 x1 x2 x3 x4 = k0_pay2 x0 x3 x4 := by
  unfold out0_6 r0_0 r0_1 r0_2
  rw [View.canon_unit_zero origin, View.ld_unit_zero (S := S10000x128) origin, View.ld_unit_zero (S := S128x128) origin,
    View.ld_unit_zero (S := S1x128) origin]

/-- The first vector array after the region. -/
theorem arr5 (c : Dev nD) : (dat0 V c).arrAt 5 cfg0.N = k0_pay1 (V c main_arg1) (V c main_arg2) (V c main_v0) := by
  refine (dat0 V c).arrAt_eq_of_covers 5 _ (by decide +kernel) fun t _ y => ?_
  rw [after0_5, out5_eq, iblk0_0, iblk0_1, iblk0_2, emb5]
  rfl

/-- The second vector array after the region. -/
theorem arr6 (c : Dev nD) : (dat0 V c).arrAt 6 cfg0.N = k0_pay2 (V c main_arg1) (V c main_arg4) (V c main_v1) := by
  refine (dat0 V c).arrAt_eq_of_covers 6 _ (by decide +kernel) fun t _ y => ?_
  rw [after0_6, out6_eq, iblk0_0, iblk0_3, iblk0_4, emb6]
  rfl

end Reads

end Cert.KernelIdeal.Vectors

end
-- ==== Proof.Adjacency.lean ====
/-
  THE FIRST RESULT AFTER THE SECOND REGION: `best` of the two vector arrays as the region finds them (`arr4`). Point `t` writes rows 200 t … 200 t + 199,
  from those rows of both arrays and from both arrays whole.
-/
module

public import proofs.«01_k».proof.Proof.Blocks
public import Idealize.ShloMosaic.Lib.Pipeline.ValueKit

@[expose] public section

set_option maxRecDepth 16384

noncomputable section

namespace Cert.KernelIdeal.Adjacency

open Idealize.ShloMosaic hiding ix1 ix2 ix3
open Idealize.ShloMosaic.TcCoe Idealize.ShloMosaic.ValueIdx Idealize.SL.Sem
open Idealize.ShloMosaic.Pipeline (Dat)
open Cert.KernelIdeal Cert.KernelIdeal.Gen Cert.KernelIdeal.Blocks Cert.KernelIdeal.Steps

/-- Where each window's block lies at a point. -/
theorem index0 : ∀ t : Fin cfg1.N, win1_0.index t = ![(grid1.coords t 0).val, 0] := (by decide +kernel : ∀ t : Fin grid1.N, _)
theorem index1 : ∀ t : Fin cfg1.N, win1_1.index t = ![(grid1.coords t 0).val, 0] := (by decide +kernel : ∀ t : Fin grid1.N, _)
theorem index2 : ∀ t : Fin cfg1.N, win1_2.index t = ![0, 0] := (by decide +kernel : ∀ t : Fin grid1.N, _)
theorem index3 : ∀ t : Fin cfg1.N, win1_3.index t = ![0, 0] := (by decide +kernel : ∀ t : Fin grid1.N, _)
theorem index4 : ∀ t : Fin cfg1.N, win1_4.index t = ![(grid1.coords t 0).val, 0] := (by decide +kernel : ∀ t : Fin grid1.N, _)

/-- The row of the array that row `p` of point `t`'s block is. -/
def at' (t : Fin cfg1.N) (p : Fin 200) : Fin 10000 :=
  ⟨(grid1.coords t 0).val * 200 + p.val, by have h : (grid1.coords t 0).val < 50 := (grid1.coords t 0).isLt; have := p.isLt; omega⟩

theorem emb0 (t : Fin cfg1.N) (p : Fin 200) (k : Fin 128) : ((cfg1.win 0).blk t).view.emb (ix2 p k) = ix2 (at' t p) k := by
  unfold at'; blk_ext [index0]
theorem emb1 (t : Fin cfg1.N) (p : Fin 200) (k : Fin 128) : ((cfg1.win 1).blk t).view.emb (ix2 p k) = ix2 (at' t p) k := by
  unfold at'; blk_ext [index1]
theorem emb2 (t : Fin cfg1.N) (j : S10000x128.Idx) : ((cfg1.win 2).blk t).view.emb j = j := by blk_ext [index2]
theorem emb3 (t : Fin cfg1.N) (j : S10000x128.Idx) : ((cfg1.win 3).blk t).view.emb j = j := by blk_ext [index3]
theorem emb4 (t : Fin cfg1.N) (p : Fin 200) (c : Fin 10000) : ((cfg1.win 4).blk t).view.emb (ix2 p c) = ix2 (at' t p) c := by
  unfold at'; blk_ext [index4]

section Reads
variable {F : FTy → Type} [FloatOps F]
variable (V : (c : Dev nD) → (b : Ref sig .tc) → Buf (Elt F) ((c : Thread nD τ).loc b))

/-- The rows of the first vector array a point reads. -/
theorem iblk1_0 (c : Dev nD) (t : Fin cfg1.N) (p : Fin 200) (k : Fin 128) : iblk1 V c 0 t (ix2 p k) = V c main_v2_0 (ix2 (at' t p) k) := by
  show V c main_v2_0 (((cfg1.win 0).blk t).view.emb (ix2 p k)) = _; rw [emb0]
/-- The rows of the second. -/
theorem iblk1_1 (c : Dev nD) (t : Fin cfg1.N) (p : Fin 200) (k : Fin 128) : iblk1 V c 1 t (ix2 p k) = V c main_v2_1 (ix2 (at' t p) k) := by
  show V c main_v2_1 (((cfg1.win 1).blk t).view.emb (ix2 p k)) = _; rw [emb1]
/-- The first vector array whole. -/
theorem iblk1_2 (c : Dev nD) (t : Fin cfg1.N) : iblk1 V c 2 t = V c main_v2_0 := by
  funext j; show V c main_v2_0 (((cfg1.win 2).blk t).view.emb j) = V c main_v2_0 j; rw [emb2]
/-- The second whole. -/
theorem iblk1_3 (c : Dev nD) (t : Fin cfg1.N) : iblk1 V c 3 t = V c main_v2_1 := by
  funext j; show V c main_v2_1 (((cfg1.win 3).blk t).view.emb j) = V c main_v2_1 j; rw [emb3]

theorem origin : (![0, 0] : Fin 2 → Nat) = fun _ => 0 := by decide

/-- The stored block over the blocks read: the scores where ten rounds leave them negative. -/
theorem stored_eq (i : grid1.Coords) (x0 x1 : Vec F S200x128 .f32) (x2 x3 : Vec F S10000x128 .f32) :
    out1_4 i x0 x1 x2 x3 = keep (step^[10] (k1_pay3 i x0 x3 x1 x2)) (k1_pay3 i x0 x3 x1 x2) := by
  rw [out_eq]
  unfold r1_0 r1_1 r1_2
  rw [View.canon_unit_zero origin, View.ld_unit_zero (S := S200x128) origin, View.ld_unit_zero (S := S200x128) origin,
    View.ld_unit_zero (S := S10000x128) origin, View.ld_unit_zero (S := S10000x128) origin]

end Reads

variable (V : (c : Dev nD) → (b : Ref sig .tc) → Buf (Elt Ideal) ((c : Thread nD τ).loc b))

/-- The two vector arrays by row and column. -/
abbrev v1 (c : Dev nD) : Fin 10000 → Fin 128 → EReal := fun i k => V c main_v2_0 (ix2 i k)
abbrev v2 (c : Dev nD) : Fin 10000 → Fin 128 → EReal := fun i k => V c main_v2_1 (ix2 i k)

/-- A point's scores are its rows' of `score`. -/
theorem point_score (c : Dev nD) (t : Fin cfg1.N) (p : Fin 200) (j : Fin 10000) :
    k1_pay3 (F := Ideal) (grid1.coords t) (iblk1 V c 0 t) (iblk1 V c 3 t) (iblk1 V c 1 t) (iblk1 V c 2 t) (ix2 p j)
      = Cert.Spec.score (v1 V c) (v2 V c) (at' t p) j := by
  rw [scores_apply, iblk1_2, iblk1_3]
  simp only [iblk1_0, iblk1_1]
  have h : ((grid1.coords t 0).val * 200 + p.val = j.val) ↔ (at' t p = j) := by unfold at'; rw [Fin.ext_iff]
  unfold Cert.Spec.score Cert.Spec.pair
  simp only [h]

/-- A point's stored block is its rows' of `best`. -/
theorem point_best (c : Dev nD) (t : Fin cfg1.N) (p : Fin 200) (j : Fin 10000) :
    out1_4 (F := Ideal) (grid1.coords t) (iblk1 V c 0 t) (iblk1 V c 1 t) (iblk1 V c 2 t) (iblk1 V c 3 t) (ix2 p j)
      = Cert.Spec.best (v1 V c) (v2 V c) (at' t p) j := by
  rw [stored_eq, keep_apply, point_score]
  have hrow : row (k1_pay3 (F := Ideal) (grid1.coords t) (iblk1 V c 0 t) (iblk1 V c 3 t) (iblk1 V c 1 t) (iblk1 V c 2 t)) p
      = Cert.Spec.score (v1 V c) (v2 V c) (at' t p) := funext fun q => point_score V c t p q
  rw [hrow]
  rfl

/-- What the array is shown to hold. -/
def G (c : Dev nD) : S10000x10000.Idx → EReal := fun i => Cert.Spec.best (v1 V c) (v2 V c) (i 0) (i 1)

theorem G_apply (c : Dev nD) (i j : Fin 10000) : G V c (ix2 i j) = Cert.Spec.best (v1 V c) (v2 V c) i j := rfl

/-- What a point leaves in its block, place by place. -/
theorem after_apply (c : Dev nD) (t : Fin cfg1.N) (y : S200x10000.Idx) :
    (dat1 V c).after 4 t y = G V c (((cfg1.win 4).blk t).view.emb y) := by
  rw [ValueIdx.eq_ix2 y]
  have h := (point_best V c t (y 0) (y 1)).trans ((congrArg (G V c) (emb4 t (y 0) (y 1))).trans (G_apply V c (at' t (y 0)) (y 1))).symm
  exact (congrFun (after1_4 V c t) (ix2 (y 0) (y 1))).trans h

/-- The blocks written cover the array. -/
theorem covers : (cfg1.win 4).Covers := by decide +kernel

/-- The array after the region: `best` of the two vector arrays. -/
theorem arr4 (c : Dev nD) : (dat1 V c).arrAt 4 cfg1.N = G V c :=
  (dat1 V c).arrAt_eq_of_covers 4 (G V c) covers fun t _ y => after_apply V c t y

end Cert.KernelIdeal.Adjacency

end
-- ==== Proof.Contents.lean ====
/-
  THE TWO RESULTS IN THE LAST STATE OF THE KERNEL'S RUN, from the launch memory: the first result is `best` of the two arrays of vectors (`first`), the
  second is the first array of vectors (`second`).
-/
module

public import proofs.«01_k».proof.Proof.Vectors
public import proofs.«01_k».proof.Proof.Adjacency
public import Idealize.ShloMosaic.Lib.StableHlo.Run
public import Idealize.ShloMosaic.Lib.ValueIdxCore

@[expose] public section

set_option maxRecDepth 16384

noncomputable section

namespace Cert.KernelIdeal.Contents

open Idealize.ShloMosaic hiding ix1 ix2 ix3
open Idealize.ShloMosaic.TcCoe Idealize.ShloMosaic.ValueIdx Idealize.SL.Sem
open Cert.KernelIdeal Cert.KernelIdeal.Gen

section Reads
variable {F : FTy → Type} [FloatOps F]
variable (m : (ℓ : Loc nD τ sig) → Buf (Elt F) ℓ) (ρ : Dev nD → PrngReg)

/-- The bias rows when the first region is entered: the arguments, reshaped. -/
theorem bias1 (c : Dev nD) : V1 m ρ c main_v0 = shapeCast S1x128 (m ((c : Thread nD τ).loc main_arg3)) shapeCasts_S128_S1x128 := by
  show StableHlo.after hostOps0 (W0 m ρ c) (Proc.devRef .tc main_v0) = _
  after_results
  rfl
theorem bias2 (c : Dev nD) : V1 m ρ c main_v1 = shapeCast S1x128 (m ((c : Thread nD τ).loc main_arg5)) shapeCasts_S128_S1x128 := by
  show StableHlo.after hostOps0 (W0 m ρ c) (Proc.devRef .tc main_v1) = _
  after_results
  rfl

/-- The first array of vectors at the first region's exit. -/
theorem vectors1 (c : Dev nD) : V2 m ρ c main_v2_0 = k0_pay1 (m ((c : Thread nD τ).loc main_arg1)) (m ((c : Thread nD τ).loc main_arg2))
    (shapeCast S1x128 (m ((c : Thread nD τ).loc main_arg3)) shapeCasts_S128_S1x128) := by
  refine (W2_arr m ρ c 5).trans ((Vectors.arr5 (V1 m ρ) c).trans ?_)
  rw [bias1, show V1 m ρ c main_arg1 = m ((c : Thread nD τ).loc main_arg1) from W1_args m ρ c main_arg1 (by decide),
    show V1 m ρ c main_arg2 = m ((c : Thread nD τ).loc main_arg2) from W1_args m ρ c main_arg2 (by decide)]
/-- And the second. -/
theorem vectors2 (c : Dev nD) : V2 m ρ c main_v2_1 = k0_pay2 (m ((c : Thread nD τ).loc main_arg1)) (m ((c : Thread nD τ).loc main_arg4))
    (shapeCast S1x128 (m ((c : Thread nD τ).loc main_arg5)) shapeCasts_S128_S1x128) := by
  refine (W2_arr m ρ c 6).trans ((Vectors.arr6 (V1 m ρ) c).trans ?_)
  rw [bias2, show V1 m ρ c main_arg1 = m ((c : Thread nD τ).loc main_arg1) from W1_args m ρ c main_arg1 (by decide),
    show V1 m ρ c main_arg4 = m ((c : Thread nD τ).loc main_arg4) from W1_args m ρ c main_arg4 (by decide)]

/-- The second region leaves the first array of vectors as it finds it. -/
theorem kept1 (c : Dev nD) : W3 m ρ c (Proc.devRef .tc main_v2_0) = V2 m ρ c main_v2_0 :=
  W3_of m ρ c main_v2_0 (by decide +kernel)

end Reads

variable (m : (ℓ : Loc nD τ sig) → Buf (Elt Ideal) ℓ) (ρ : Dev nD → PrngReg)

/-- The launch memory's arguments by row and column. -/
abbrev emb (c : Dev nD) : Fin 10000 → Fin 128 → EReal := fun i k => m ((c : Thread nD τ).loc main_arg1) (ix2 i k)
abbrev mat1 (c : Dev nD) : Fin 128 → Fin 128 → EReal := fun j k => m ((c : Thread nD τ).loc main_arg2) (ix2 j k)
abbrev off1 (c : Dev nD) : Fin 128 → EReal := fun j => m ((c : Thread nD τ).loc main_arg3) (ix1 j)
abbrev mat2 (c : Dev nD) : Fin 128 → Fin 128 → EReal := fun j k => m ((c : Thread nD τ).loc main_arg4) (ix2 j k)
abbrev off2 (c : Dev nD) : Fin 128 → EReal := fun j => m ((c : Thread nD τ).loc main_arg5) (ix1 j)

/-- The two arrays of vectors. -/
abbrev vec1 (c : Dev nD) : Fin 10000 → Fin 128 → EReal := Cert.Spec.vec (emb m c) (mat1 m c) (off1 m c)
abbrev vec2 (c : Dev nD) : Fin 10000 → Fin 128 → EReal := Cert.Spec.vec (emb m c) (mat2 m c) (off2 m c)

/-- A row vector reshaped from a vector holds it. -/
theorem row_reshape (b : Vec Ideal S128 .f32) (j : Fin 128) : shapeCast S1x128 b shapeCasts_S128_S1x128 (ix2 0 j) = b (ix1 j) := by
  rw [shapeCast_a_1a_apply]

theorem vectors1_apply (c : Dev nD) (i : Fin 10000) (j : Fin 128) : V2 m ρ c main_v2_0 (ix2 i j) = vec1 m c i j := by
  rw [vectors1]
  refine (Blocks.vecs_apply _ _ _ i j).trans ?_
  exact congrArg (fun b => Cert.Spec.vec (emb m c) (mat1 m c) b i j) (funext fun k => row_reshape (m ((c : Thread nD τ).loc main_arg3)) k)

theorem vectors2_apply (c : Dev nD) (i : Fin 10000) (j : Fin 128) : V2 m ρ c main_v2_1 (ix2 i j) = vec2 m c i j := by
  rw [vectors2]
  refine (Blocks.vecs'_apply _ _ _ i j).trans ?_
  exact congrArg (fun b => Cert.Spec.vec (emb m c) (mat2 m c) b i j) (funext fun k => row_reshape (m ((c : Thread nD τ).loc main_arg5)) k)

/-- The first result when the run ends. -/
theorem first (c : Dev nD) : W3 m ρ c (Proc.devRef .tc main_v3)
    = fun i : S10000x10000.Idx => Cert.Spec.best (vec1 m c) (vec2 m c) (i 0) (i 1) := by
  refine (W3_arr m ρ c 4).trans ((Adjacency.arr4 (V2 m ρ) c).trans ?_)
  have h1 : Adjacency.v1 (V2 m ρ) c = vec1 m c := funext fun i => funext fun k => vectors1_apply m ρ c i k
  have h2 : Adjacency.v2 (V2 m ρ) c = vec2 m c := funext fun i => funext fun k => vectors2_apply m ρ c i k
  unfold Adjacency.G
  rw [h1, h2]

/-- The second result when the run ends. -/
theorem second (c : Dev nD) : W3 m ρ c (Proc.devRef .tc main_v2_0) = fun i : S10000x128.Idx => vec1 m c (i 0) (i 1) := by
  rw [kept1]
  funext i
  refine (congrArg (V2 m ρ c main_v2_0) (ValueIdx.eq_ix2 i)).trans (vectors1_apply m ρ c (i 0) (i 1))

end Cert.KernelIdeal.Contents

end
-- ==== Proof.Run.lean ====
/-
  THE KERNEL'S RUN READ AT ITS TWO RESULTS (`run`): every weakly fair execution ends with the first result at `best` of the two arrays of vectors, the
  second at the first array of vectors, and the arguments as launched.
-/
module

public import proofs.«01_k».proof.Proof.Contents

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Contents

local notation "𝕄" => MT nD τ sig Unit (Elt Ideal) ℕ (UR sig nD τ) ℕ

variable (m : (ℓ : Loc nD τ sig) → Buf (Elt Ideal) ℓ) (ρ : Dev nD → PrngReg)

-- the launch's own arguments are found through plain definitions in the types of what is still unknown
set_option backward.isDefEq.respectTransparency.types false in
/-- The run, read at the two results and at the arguments. -/
theorem run : θ_run (defs (F := Ideal)) (onTc (τ := τ) (main (F := Ideal))) ⟨m, fun _ => 0, ρ⟩ (fun r => ∀ c : Dev nD,
      r.2.mem ((c.tc : Thread nD τ).loc main_v3) = (fun i : S10000x10000.Idx => Cert.Spec.best (vec1 m c) (vec2 m c) (i 0) (i 1))
      ∧ r.2.mem ((c.tc : Thread nD τ).loc main_v2_0) = (fun i : S10000x128.Idx => vec1 m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v3 (by decide))).trans (first m ρ c),
       (h c _ (mem_uc main_v2_0 (by decide))).trans (second m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Run

end
-- ==== Proof.InOrder.lean ====
/-
  THE PRECONDITION, READ AS A STATEMENT (`of_fn`): where the predicate holds of a table of row numbers, the table's entry `i` is `i`.
-/
module

public import proofs.«01_k».proof.Proof.Gen.Pre_in_order
public import Idealize.ShloMosaic.Lib.ValueIdx
public import Idealize.ShloMosaic.Lib.ValueIdxCore
public import Idealize.ShloMosaic.Lib.ReduceAll
public import Idealize.ShloMosaic.PureOps.Ideal.Laws

@[expose] public section

set_option maxRecDepth 16384

noncomputable section

namespace Cert.InOrder

open Idealize.ShloMosaic Idealize.ShloMosaic.ValueIdx Cert.Pre_in_order

/-- The predicate holds of a table only where every entry is its own place. -/
theorem of_fn (x0 : IVec S10000 32) (x1 : FVec Ideal S10000x128 .f32) (x2 : FVec Ideal S128x128 .f32) (x3 : FVec Ideal S128 .f32)
    (x4 : FVec Ideal S128x128 .f32) (x5 : FVec Ideal S128 .f32) (h : fn (F := Ideal) x0 x1 x2 x3 x4 x5 = fun _ => 1#1) (i : Fin 10000) :
    x0 (ix1 i) = BitVec.ofNat 32 i.val := by
  have : Subsingleton S_.Idx := ⟨fun a b => funext fun d => d.elim0⟩
  have e := Host.reduce_andi_all _ _ _ _ (fun d => d.elim0) (congrFun h (fun d => d.elim0)) (ix1 i)
  exact IntOp.cmpi_eq.1 e

end Cert.InOrder

end
-- ==== Proof.Take.lean ====
/-
  THE REFERENCE'S TWO LOOKUPS: with the row numbers in order, each is the table itself (`take0`, `take1`).
-/
module

public import proofs.«01_k».proof.Proof.Gen.ReferenceIdeal.Read
public import Idealize.ShloMosaic.Lib.ReduceAll
public import Idealize.ShloMosaic.Lib.WordArith
public import Idealize.ShloMosaic.Lib.WordCmp
public import Idealize.ShloMosaic.Lib.Routing.Ops
public import Idealize.ShloMosaic.Lib.Routing.OpsPair

@[expose] public section

set_option maxRecDepth 16384

noncomputable section

namespace Cert.ReferenceIdeal.Take

open Idealize.ShloMosaic Idealize.ShloMosaic.TcCoe Idealize.ShloMosaic.ValueIdx Idealize.SL.Sem
open Cert.ReferenceIdeal Cert.ReferenceIdeal.Gen Cert.ReferenceIdeal.Read

/-- A place below 10000 as a word is that number. -/
theorem toNat_small (n : Nat) (h : n < 10000) : (BitVec.ofNat 32 n).toNat = n := by
  rw [BitVec.toNat_ofNat]; omega

theorem toInt_small (n : Nat) (h : n < 10000) : (BitVec.ofNat 32 n).toInt = (n : Int) := by
  rw [BitVec.toInt_eq_toNat_of_lt (by rw [toNat_small n h]; omega), toNat_small n h]

/-- Wrapping where negative leaves a word that is a place below 10000. -/
theorem wrap_small (n : Nat) (h : n < 10000) (w a : BitVec 32) (hw : w = BitVec.ofNat 32 n) :
    Scalar.select (IntOp.cmpi .slt w 0#32) a w = BitVec.ofNat 32 n := by
  subst hw
  exact Routing.wrap_of_lt _ _ (by rw [toNat_small n h]; omega)

variable (x0 : (⟨S10000, .i32⟩ : BufTy).Contents (Elt Ideal)) (x1 : (⟨S10000x128, .f32⟩ : BufTy).Contents (Elt Ideal))
variable (h : ∀ i : Fin 10000, x0 (ix1 i) = BitVec.ofNat 32 i.val)
include h

/-- The row number looked up for row `i` is `i`. -/
theorem row_number (i : S10000x1.Idx) : val_main_call0_v5 (F := Ideal) x0 i = BitVec.ofNat 32 (i 0).val := by
  rw [val_main_call0_v5_apply, val_main_call0_v4_apply, val_main_call0_v1_apply, val_main_call0_v0_apply, val_main_call0_c_apply]
  have e : idx_main_call0_v5 i = ix1 (n := 10000) (i 0) := funext fun a => by match a with | ⟨0, _⟩ => rfl
  exact wrap_small _ (i 0).isLt _ _ ((congrArg x0 e).trans (h (i 0)))

/-- So it lies within the table. -/
theorem within (i : S10000x1.Idx) : val_main_call0_v11 (F := Ideal) x0 i = 1#1 := by
  rw [val_main_call0_v11_apply, val_main_call0_v7_apply, val_main_call0_v10_apply, row_number x0 h, val_main_call0_v6_apply, val_main_call0_v9_apply,
    val_main_call0_v8_apply, val_main_call0_c_1_apply, val_main_call0_c_2_apply]
  have hi : (i 0).val < 10000 := (i 0).isLt
  rw [IntOp.cmpi_sge.2 (by rw [toInt_small _ hi]; show (0 : Int) ≤ _; omega),
    IntOp.cmpi_sle.2 (by rw [toInt_small _ hi]; show _ ≤ (9999 : Int); omega)]
  rfl

/-- The first lookup is the table. -/
theorem take0 (i : Fin 10000) (k : Fin 128) : val_main_v0 (F := Ideal) x0 x1 (ix2 i k) = x1 (ix2 i k) := by
  rw [val_main_v0_apply, val_main_call0_v14_apply]
  have hm : val_main_call0_v12 (F := Ideal) x0 (idx_main_call0_v14 (ix2 i k)) = 1#1 :=
    Host.reduce_andi_one _ _ _ _ _ rfl (within x0 h)
  rw [hm]
  exact Routing.gather_row (nb := 10000) (B := 128) (n := 10000) gather_S10000x128_S10000x1_S10000x128_1_0_n_n_0_1_1128 rfl rfl rfl rfl rfl
    x1 (val_main_call0_v5 (F := Ideal) x0) i k i (row_number x0 h (ix2 i 0)) (by decide)

omit h in
/-- The second lookup is the first, read again. -/
theorem again : val_main_v1 (F := Ideal) x0 x1 = val_main_v0 (F := Ideal) x0 x1 := rfl

theorem take1 (i : Fin 10000) (k : Fin 128) : val_main_v1 (F := Ideal) x0 x1 (ix2 i k) = x1 (ix2 i k) := by
  rw [again]; exact take0 x0 x1 h i k

end Cert.ReferenceIdeal.Take

end
-- ==== Proof.Finite.lean ====
/-
  THE SCORES' ARITHMETIC: tanh is always a real number, so the vectors' entries are, so the sums of products are; over those the steps of the plain
  form (half the sum, the diagonal taken away, three times the rest) are `score` (`score_plain`).
-/
module

public import proofs.«01_k».proof.Proof.Spec

@[expose] public section

noncomputable section

namespace Cert.Finite

open Idealize.ShloMosaic

/-- An extended real that is a real number. -/
def IsReal (x : EReal) : Prop := ∃ r : ℝ, x = (r : EReal)

theorem isReal_tanh (x : EReal) : IsReal (Ideal.tanh x) := by
  induction x with
  | bot => exact ⟨-1, by rw [Ideal.tanh_bot]; rfl⟩
  | top => exact ⟨1, by rw [Ideal.tanh_top]; rfl⟩
  | coe r => exact ⟨Real.tanh r, Ideal.tanh_coe r⟩

theorem isReal_add {x y : EReal} : IsReal x → IsReal y → IsReal (x + y) := by
  rintro ⟨a, rfl⟩ ⟨b, rfl⟩; exact ⟨a + b, (EReal.coe_add a b).symm⟩

theorem isReal_mul {x y : EReal} : IsReal x → IsReal y → IsReal (x * y) := by
  rintro ⟨a, rfl⟩ ⟨b, rfl⟩; exact ⟨a * b, (EReal.coe_mul a b).symm⟩

theorem isReal_sum {n : Nat} (f : Fin n → EReal) (h : ∀ k, IsReal (f k)) : IsReal (∑ k, f k) := by
  choose g hg using h
  refine ⟨∑ k, g k, ?_⟩
  rw [Finset.sum_congr rfl fun k _ => hg k]
  induction (Finset.univ : Finset (Fin n)) using Finset.induction_on with
  | empty => simp
  | insert a s ha ih => rw [Finset.sum_insert ha, Finset.sum_insert ha, ih, EReal.coe_add]

/-- The entries of a vector are real numbers. -/
theorem isReal_vec (x : Fin 10000 → Fin 128 → EReal) (W : Fin 128 → Fin 128 → EReal) (b : Fin 128 → EReal) (i : Fin 10000) (j : Fin 128) :
    IsReal (Cert.Spec.vec x W b i j) := isReal_tanh _

/-- So is the sum of the two products of two nodes. -/
theorem isReal_pair {v w : Fin 10000 → Fin 128 → EReal} (hv : ∀ i k, IsReal (v i k)) (hw : ∀ i k, IsReal (w i k)) (i j : Fin 10000) :
    IsReal (Cert.Spec.pair v w i j) :=
  isReal_add (isReal_sum _ fun k => isReal_mul (hv i k) (hw j k)) (isReal_sum _ fun k => isReal_mul (hw i k) (hv j k))

/-- Three times what is left of half a real number once it is taken away, or nothing is. -/
theorem scale {s : EReal} (hs : IsReal s) (d : Prop) [Decidable d] :
    ((3 : ℝ) : EReal) * (Ideal.div s ((2 : ℝ) : EReal) - if d then Ideal.div s ((2 : ℝ) : EReal) else 0)
      = if d then 0 else ((3 / 2 : ℝ) : EReal) * s := by
  obtain ⟨r, rfl⟩ := hs
  rw [Ideal.div_coe (by norm_num : (2 : ℝ) ≠ 0), ← EReal.coe_mul]
  by_cases h : d
  · rw [if_pos h, if_pos h, ← EReal.coe_sub, sub_self, EReal.coe_zero, mul_zero]
  · rw [if_neg h, if_neg h, sub_zero, ← EReal.coe_mul, ← EReal.coe_mul]
    congr 1
    ring

/-- The plain form's score is `score`. -/
theorem score_plain {v w : Fin 10000 → Fin 128 → EReal} (hv : ∀ i k, IsReal (v i k)) (hw : ∀ i k, IsReal (w i k)) (i j : Fin 10000) :
    max (Ideal.tanh (((3 : ℝ) : EReal) * (Ideal.div (Cert.Spec.pair v w i j) ((2 : ℝ) : EReal)
      - if i = j then Ideal.div (Cert.Spec.pair v w i j) ((2 : ℝ) : EReal) else 0))) 0 = Cert.Spec.score v w i j := by
  rw [scale (isReal_pair hv hw i j)]
  unfold Cert.Spec.score
  by_cases h : i = j
  · rw [if_pos h, if_pos h, ← EReal.coe_zero, Ideal.tanh_coe, Real.tanh_zero, max_self]
  · rw [if_neg h, if_neg h]

end Cert.Finite

end
-- ==== Proof.Dense.lean ====
/-
  THE REFERENCE'S DENSE STAGES: with the row numbers in order, its two arrays of vectors are `vec` (`first_vec`, `second_vec`) and its matrix of scores
  is `score` (`scores`).
-/
module

public import proofs.«01_k».proof.Proof.Take
public import proofs.«01_k».proof.Proof.Consts
public import proofs.«01_k».proof.Proof.Finite

@[expose] public section

set_option maxRecDepth 16384

noncomputable section

namespace Cert.ReferenceIdeal.Dense

open Idealize.ShloMosaic Idealize.ShloMosaic.TcCoe Idealize.ShloMosaic.ValueIdx Idealize.SL.Sem
open Cert.ReferenceIdeal Cert.ReferenceIdeal.Gen Cert.ReferenceIdeal.Read Cert.ReferenceIdeal.Take Cert.Consts

variable (x0 : (⟨S10000, .i32⟩ : BufTy).Contents (Elt Ideal)) (x1 : (⟨S10000x128, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-- The two arrays of vectors, over the arguments. -/
abbrev v : Fin 10000 → Fin 128 → EReal := Cert.Spec.vec (fun i k => x1 (ix2 i k)) (fun j k => x2 (ix2 j k)) (fun j => x3 (ix1 j))
abbrev w : Fin 10000 → Fin 128 → EReal := Cert.Spec.vec (fun i k => x1 (ix2 i k)) (fun j k => x4 (ix2 j k)) (fun j => x5 (ix1 j))

variable (h : ∀ i : Fin 10000, x0 (ix1 i) = BitVec.ofNat 32 i.val)

section Vectors
include h

theorem first_sum (i : Fin 10000) (j : Fin 128) :
    val_main_v3 (F := Ideal) x0 x1 x2 (ix2 i j) = ∑ k : Fin 128, (x1 (ix2 i k) : EReal) * x2 (ix2 j k) := by
  rw [val_main_v3_apply]
  refine Finset.sum_congr rfl fun k _ => ?_
  have el : lidx_main_v3 (ix2 i j) k = ix2 i k := funext fun a => by match a with | ⟨0, _⟩ => rfl | ⟨1, _⟩ => rfl
  have er : idx_main_v2 (ridx_main_v3 (ix2 i j) k) = ix2 j k := funext fun a => by match a with | ⟨0, _⟩ => rfl | ⟨1, _⟩ => rfl
  rw [val_main_v2_apply, el, er, take0 x0 x1 h]

theorem second_sum (i : Fin 10000) (j : Fin 128) :
    val_main_v11 (F := Ideal) x0 x1 x4 (ix2 i j) = ∑ k : Fin 128, (x1 (ix2 i k) : EReal) * x4 (ix2 j k) := by
  rw [val_main_v11_apply]
  refine Finset.sum_congr rfl fun k _ => ?_
  have el : lidx_main_v11 (ix2 i j) k = ix2 i k := funext fun a => by match a with | ⟨0, _⟩ => rfl | ⟨1, _⟩ => rfl
  have er : idx_main_v10 (ridx_main_v11 (ix2 i j) k) = ix2 j k := funext fun a => by match a with | ⟨0, _⟩ => rfl | ⟨1, _⟩ => rfl
  rw [val_main_v10_apply, el, er, take1 x0 x1 h]

/-- The first array of vectors. -/
theorem first_vec (i : Fin 10000) (j : Fin 128) : val_main_v9 (F := Ideal) x0 x1 x2 x3 (ix2 i j) = v x1 x2 x3 i j := by
  have eb : idx_main_v4 (idx_main_v5 (ix2 i j)) = ix1 j := funext fun a => by match a with | ⟨0, _⟩ => rfl
  rw [val_main_v9_apply, val_main_v8_apply, val_main_v7_apply, val_main_cst_apply, val_main_v6_apply, val_main_v5_apply, val_main_v4_apply, eb,
    first_sum x0 x1 x2 h, lit_three]
  rfl

/-- The second. -/
theorem second_vec (i : Fin 10000) (j : Fin 128) : val_main_v17 (F := Ideal) x0 x1 x4 x5 (ix2 i j) = w x1 x4 x5 i j := by
  have eb : idx_main_v12 (idx_main_v13 (ix2 i j)) = ix1 j := funext fun a => by match a with | ⟨0, _⟩ => rfl
  rw [val_main_v17_apply, val_main_v16_apply, val_main_v15_apply, val_main_cst_0_apply, val_main_v14_apply, val_main_v13_apply, val_main_v12_apply, eb,
    second_sum x0 x1 x4 h, lit_three]
  rfl

/-- The two products of nodes, added. -/
theorem sums (i j : Fin 10000) : val_main_v22 (F := Ideal) x0 x1 x2 x3 x4 x5 (ix2 i j) = Cert.Spec.pair (v x1 x2 x3) (w x1 x4 x5) i j := by
  have e1 : val_main_v19 (F := Ideal) x0 x1 x2 x3 x4 x5 (ix2 i j) = ∑ k : Fin 128, v x1 x2 x3 i k * w x1 x4 x5 j k := by
    rw [val_main_v19_apply]
    refine Finset.sum_congr rfl fun k _ => ?_
    have el : lidx_main_v19 (ix2 i j) k = ix2 i k := funext fun a => by match a with | ⟨0, _⟩ => rfl | ⟨1, _⟩ => rfl
    have er : idx_main_v18 (ridx_main_v19 (ix2 i j) k) = ix2 j k := funext fun a => by match a with | ⟨0, _⟩ => rfl | ⟨1, _⟩ => rfl
    rw [val_main_v18_apply, el, er, first_vec x0 x1 x2 x3 h, second_vec x0 x1 x4 x5 h]
  have e2 : val_main_v21 (F := Ideal) x0 x1 x2 x3 x4 x5 (ix2 i j) = ∑ k : Fin 128, w x1 x4 x5 i k * v x1 x2 x3 j k := by
    rw [val_main_v21_apply]
    refine Finset.sum_congr rfl fun k _ => ?_
    have el : lidx_main_v21 (ix2 i j) k = ix2 i k := funext fun a => by match a with | ⟨0, _⟩ => rfl | ⟨1, _⟩ => rfl
    have er : idx_main_v20 (ridx_main_v21 (ix2 i j) k) = ix2 j k := funext fun a => by match a with | ⟨0, _⟩ => rfl | ⟨1, _⟩ => rfl
    rw [val_main_v20_apply, el, er, first_vec x0 x1 x2 x3 h, second_vec x0 x1 x4 x5 h]
  rw [val_main_v22_apply, e1, e2]
  rfl

end Vectors

/-- The diagonal, as the reference marks it. -/
theorem diagonal (i j : Fin 10000) : val_main_v30 (F := Ideal) (ix2 i j) = BitVec.ofBool (decide (i = j)) := by
  rw [val_main_v30_apply, val_main_v28_apply, val_main_v29_apply, val_main_v26_apply, val_main_v27_apply, val_main_v25_apply, val_main_v25_apply,
    WordCmp.cmpi_eq_eq_toNat]
  congr 1
  refine decide_eq_decide.2 ?_
  show (BitVec.ofNat 32 i.val).toNat = (BitVec.ofNat 32 j.val).toNat ↔ _
  rw [toNat_small _ i.isLt, toNat_small _ j.isLt, Fin.ext_iff]

/-- A choice by a decided bit. -/
theorem choose_bit {α : Type} (d : Prop) [Decidable d] (a b : α) : Scalar.select (BitVec.ofBool (decide d)) a b = if d then a else b := by
  by_cases hd : d
  · rw [if_pos hd, decide_eq_true hd]; rfl
  · rw [if_neg hd, decide_eq_false hd]; rfl

include h in
/-- The matrix of scores. -/
theorem scores (i j : Fin 10000) :
    val_main_v36 (F := Ideal) x0 x1 x2 x3 x4 x5 (ix2 i j) = Cert.Spec.score (v x1 x2 x3) (w x1 x4 x5) i j := by
  rw [val_main_v36_apply, val_main_call3_v0_apply, val_main_call3_cst_apply, val_main_v35_apply, val_main_v34_apply, val_main_v33_apply,
    val_main_cst_3_apply, val_main_v32_apply, val_main_v31_apply, val_main_call2_v1_apply, val_main_call2_v0_apply, val_main_cst_2_apply,
    val_main_v24_apply, val_main_v23_apply, val_main_cst_1_apply, sums x0 x1 x2 x3 x4 x5 h, diagonal, choose_bit, lit_three, lit_two, lit_zero]
  exact Cert.Finite.score_plain (fun i k => Cert.Finite.isReal_vec _ _ _ i k) (fun i k => Cert.Finite.isReal_vec _ _ _ i k) i j

end Cert.ReferenceIdeal.Dense

end
-- ==== Proof.Leading.lean ====
/-
  THE POSITIONS OF THE FIRST FEW OF A ROW, as the host's `top_k` gives them on a matrix without negative entries: position `r` of row `i` is the
  position picked in round `r` of Rounds.lean (`positions`).
-/
module

public import proofs.«01_k».proof.Proof.Rounds
public import Idealize.ShloMosaic.Lib.ValueIdx
public import Idealize.ShloMosaic.Lib.ValueIdxCore
public import Idealize.ShloMosaic.Lib.Pipeline.Value
public import Idealize.ShloMosaic.PureOps.Ideal.Laws

@[expose] public section

noncomputable section

namespace Cert.Leading

open Idealize.ShloMosaic Idealize.ShloMosaic.ValueIdx

variable {R n k : Nat}

/-- A place moved along its row. -/
theorem along_row (i : Fin R) (c c' : Fin n) : (ix2 i c).along (1 : Fin 2) c' = ix2 i c' := by
  funext a
  match a with
  | ⟨0, _⟩ => rfl
  | ⟨1, _⟩ => rfl

/-- "Greater" in the total order, as a choice of sort. -/
theorem greater (x y : Ideal .f32) : (FloatOps.cmpfTotal (F := Ideal) .gt x y == 1#1) = decide ((y : EReal) < x) := by
  show (BitVec.ofBool (decide ((y : EReal) < x)) == 1#1) = _
  by_cases h : (y : EReal) < x
  · rw [decide_eq_true h]; rfl
  · rw [decide_eq_false h]; rfl

/-- The positions of the first few of every row. -/
theorem positions [NeZero n] (x : (⟨2, ![R, n]⟩ : Shape).Idx → Ideal .f32) (hx : ∀ i c, (0 : EReal) ≤ x (ix2 i c))
    (h : (⟨2, ![R, n]⟩ : Shape).Slices (fun _ => 0) ⟨2, ![R, k]⟩) (hk : k ≤ n) (i : Fin R) (r : Fin k) :
    (Host.topK ⟨2, ![R, k]⟩ 1 (FloatOps.cmpfTotal (F := Ideal) .gt) x h).2 (ix2 i r)
      = BitVec.ofNat 32 (Cert.Rounds.picked (fun c => (x (ix2 i c) : EReal)) r.val).val := by
  unfold Host.topK
  dsimp only
  refine (extractStridedSlice_apply _ _ h (ix2 i r) (ix2 i (⟨r.val, Nat.lt_of_lt_of_le r.isLt hk⟩ : Fin n)) ?_).trans ?_
  · intro a
    match a with
    | ⟨0, _⟩ => exact (Nat.zero_add _).symm
    | ⟨1, _⟩ => exact (Nat.zero_add _).symm
  unfold Host.sort2
  rw [dif_pos (show 1 < (⟨2, ![R, n]⟩ : Shape).rank from Nat.one_lt_two)]
  show BitVec.ofNat 32 (Idealize.ShloMosaic.sortedFrom (fun c c' : Fin n => FloatOps.cmpfTotal (F := Ideal) .gt
    (x ((ix2 i (⟨r.val, Nat.lt_of_lt_of_le r.isLt hk⟩ : Fin n)).along (1 : Fin 2) c))
    (x ((ix2 i (⟨r.val, Nat.lt_of_lt_of_le r.isLt hk⟩ : Fin n)).along (1 : Fin 2) c')) == 1#1) ⟨r.val, Nat.lt_of_lt_of_le r.isLt hk⟩).val = _
  simp only [along_row, greater]
  rw [Cert.Rounds.sortedFrom_eq_picked (fun c => (x (ix2 i c) : EReal)) (hx i)]

end Cert.Leading

end
-- ==== Proof.Mask.lean ====
/-
  THE REFERENCE'S FIRST RESULT: its mask is one where a row's ten leading scores stand and zero elsewhere (`mask`), so the scores times the mask are
  `best` (`result`).
-/
module

public import proofs.«01_k».proof.Proof.Dense
public import proofs.«01_k».proof.Proof.Leading
public import Idealize.ShloMosaic.Lib.Routing.OpsSet

@[expose] public section

set_option maxRecDepth 16384

noncomputable section

namespace Cert.ReferenceIdeal.Mask

open Idealize.ShloMosaic Idealize.ShloMosaic.TcCoe Idealize.ShloMosaic.ValueIdx Idealize.SL.Sem
open Cert.ReferenceIdeal Cert.ReferenceIdeal.Gen Cert.ReferenceIdeal.Read Cert.ReferenceIdeal.Take Cert.ReferenceIdeal.Dense Cert.Consts

variable (x0 : (⟨S10000, .i32⟩ : BufTy).Contents (Elt Ideal)) (x1 : (⟨S10000x128, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-- The row's scores. -/
abbrev s : Fin 10000 → Fin 10000 → EReal := Cert.Spec.score (v x1 x2 x3) (w x1 x4 x5)

/-- An update's place is a row and a round. -/
theorem places (k : S10000x10.Idx) : ∃ (a : Fin 10000) (r : Fin 10), k = ix2 a r := ⟨k 0, k 1, eq_ix2 k⟩

/-- The row number an update is sent to. -/
theorem row_word (i : Fin 10000) (r : Fin 10) : val_main_v51 (F := Ideal) (ix3 i r 0) = BitVec.ofNat 32 i.val := by
  rw [val_main_v51_apply, val_main_v50_apply, val_main_v44_apply, val_main_v41_apply, val_main_v40_apply, val_main_c_apply]
  exact wrap_small _ i.isLt _ _ (by rw [val_main_v39_apply, val_main_v38_apply])

variable (h : ∀ i : Fin 10000, x0 (ix1 i) = BitVec.ofNat 32 i.val)

section
include h

/-- The ten leading positions of a row. -/
theorem leading (i : Fin 10000) (r : Fin 10) :
    val_main_indices (F := Ideal) x0 x1 x2 x3 x4 x5 (ix2 i r) = BitVec.ofNat 32 (Cert.Rounds.picked (s x1 x2 x3 x4 x5 i) r.val).val := by
  have hs : ∀ i c : Fin 10000, val_main_v36 (F := Ideal) x0 x1 x2 x3 x4 x5 (ix2 i c) = s x1 x2 x3 x4 x5 i c :=
    fun i c => scores x0 x1 x2 x3 x4 x5 h i c
  unfold val_main_indices
  refine (Cert.Leading.positions (R := 10000) (n := 10000) (k := 10) (val_main_v36 (F := Ideal) x0 x1 x2 x3 x4 x5)
    (fun i c => by rw [hs]; exact Cert.Spec.score_nonneg _ _ i c) sliceFits_S10000x10000_S10000x10 (by decide) i r).trans ?_
  exact congrArg (fun a : Fin 10000 → EReal => BitVec.ofNat 32 (Cert.Rounds.picked a r.val).val) (funext fun c => hs i c)

/-- The column an update is sent to. -/
theorem col_word (i : Fin 10000) (r : Fin 10) :
    val_main_v52 (F := Ideal) x0 x1 x2 x3 x4 x5 (ix3 i r 0) = BitVec.ofNat 32 (Cert.Rounds.picked (s x1 x2 x3 x4 x5 i) r.val).val := by
  have e : idx_main_v52 (ix3 i r (0 : Fin 1)) = ix2 i r := funext fun a => by match a with | ⟨0, _⟩ => rfl | ⟨1, _⟩ => rfl
  rw [val_main_v52_apply, e, val_main_v49_apply, val_main_v46_apply, val_main_v45_apply, val_main_c_6_apply]
  exact wrap_small _ (Cert.Rounds.picked (s x1 x2 x3 x4 x5 i) r.val).isLt _ _ (leading x0 x1 x2 x3 x4 x5 h i r)

/-- The two words of an update. -/
theorem word0 (i : Fin 10000) (r : Fin 10) : val_main_v53 (F := Ideal) x0 x1 x2 x3 x4 x5 (ix3 i r 0) = BitVec.ofNat 32 i.val := by
  unfold val_main_v53
  refine (concatenate_pair_apply_left (t := S10000x10x2) (2 : Fin 3) _ _ concatenates_S10000x10x1_S10000x10x1_S10000x10x2_d2 (ix3 i r 0) rfl (ix3 i r 0) ?_).trans
    (row_word i r)
  intro b
  match b with
  | ⟨0, _⟩ => rfl
  | ⟨1, _⟩ => rfl
  | ⟨2, _⟩ => rfl

theorem word1 (i : Fin 10000) (r : Fin 10) :
    val_main_v53 (F := Ideal) x0 x1 x2 x3 x4 x5 (ix3 i r 1) = BitVec.ofNat 32 (Cert.Rounds.picked (s x1 x2 x3 x4 x5 i) r.val).val := by
  unfold val_main_v53
  refine (concatenate_pair_apply_right (t := S10000x10x2) (2 : Fin 3) _ _ concatenates_S10000x10x1_S10000x10x1_S10000x10x2_d2 (ix3 i r 1) rfl rfl (ix3 i r 0) ?_ rfl).trans
    (col_word x0 x1 x2 x3 x4 x5 h i r)
  intro b hb
  match b with
  | ⟨0, _⟩ => rfl
  | ⟨1, _⟩ => rfl
  | ⟨2, _⟩ => exact absurd rfl hb

/-- Where an update lands. -/
theorem lands (a : Fin 10000) (r : Fin 10) (i c : Fin 10000) :
    scatter_S10000x10000_S10000x10x2_S10000x10_n_01_01_2.resultIdx? (ix2 a r) (val_main_v53 (F := Ideal) x0 x1 x2 x3 x4 x5) = some (ix2 i c)
      ↔ a = i ∧ Cert.Rounds.picked (s x1 x2 x3 x4 x5 a) r.val = c := by
  refine (Routing.scatter_lands2 (R := 10000) (C := 10000) (A := 10000) (B := 10) scatter_S10000x10000_S10000x10x2_S10000x10_n_01_01_2 rfl rfl rfl
    (val_main_v53 (F := Ideal) x0 x1 x2 x3 x4 x5) a r i c).trans ?_
  rw [word0 x0 x1 x2 x3 x4 x5 h, word1 x0 x1 x2 x3 x4 x5 h, toInt_small _ a.isLt, toInt_small _ (Cert.Rounds.picked (s x1 x2 x3 x4 x5 a) r.val).isLt,
    Fin.ext_iff, Fin.ext_iff]
  omega

/-- The mask where a leading score stands. -/
theorem mask_in (i c : Fin 10000) (hc : ∃ q < 10, Cert.Rounds.picked (s x1 x2 x3 x4 x5 i) q = c) :
    val_main_v55 (F := Ideal) x0 x1 x2 x3 x4 x5 (ix2 i c) = (1 : EReal) := by
  obtain ⟨q, hq, e⟩ := hc
  unfold val_main_v55
  refine Routing.scatter_set_hit _ _ _ _ (ix2 i c) (1 : EReal) (fun k _ => ?_) (ix2 i (⟨q, hq⟩ : Fin 10)) ((lands x0 x1 x2 x3 x4 x5 h i ⟨q, hq⟩ i c).2 ⟨rfl, e⟩)
  rw [val_main_v54_apply, val_main_cst_8_apply, lit_one]

/-- The mask elsewhere. -/
theorem mask_out (i c : Fin 10000) (hc : ¬ ∃ q < 10, Cert.Rounds.picked (s x1 x2 x3 x4 x5 i) q = c) :
    val_main_v55 (F := Ideal) x0 x1 x2 x3 x4 x5 (ix2 i c) = (0 : EReal) := by
  unfold val_main_v55
  refine (Routing.scatter_set_miss _ _ _ _ (ix2 i c) fun k hk => ?_).trans ?_
  · obtain ⟨a, r, e⟩ := places k
    rw [e] at hk
    obtain ⟨e1, e2⟩ := (lands x0 x1 x2 x3 x4 x5 h a r i c).1 hk
    exact hc ⟨r.val, r.isLt, by rw [← e1]; exact e2⟩
  · rw [val_main_v37_apply, val_main_cst_4_apply, lit_zero]

/-- The first result. -/
theorem result (i c : Fin 10000) :
    val_main_v56 (F := Ideal) x0 x1 x2 x3 x4 x5 (ix2 i c) = Cert.Spec.best (v x1 x2 x3) (w x1 x4 x5) i c := by
  rw [val_main_v56_apply]
  show (val_main_v36 (F := Ideal) x0 x1 x2 x3 x4 x5 (ix2 i c) : EReal) * val_main_v55 (F := Ideal) x0 x1 x2 x3 x4 x5 (ix2 i c) = _
  rw [scores x0 x1 x2 x3 x4 x5 h]
  unfold Cert.Spec.best
  have hn := Cert.Rounds.after_neg_iff (s x1 x2 x3 x4 x5 i) (Cert.Spec.score_nonneg _ _ i) 10 c
  by_cases hc : ∃ q < 10, Cert.Rounds.picked (s x1 x2 x3 x4 x5 i) q = c
  · rw [mask_in x0 x1 x2 x3 x4 x5 h i c hc, if_pos (hn.2 hc), mul_one]
  · rw [mask_out x0 x1 x2 x3 x4 x5 h i c hc, if_neg fun e => hc (hn.1 e), mul_zero]

end

end Cert.ReferenceIdeal.Mask

end
-- ==== Proof.lean ====
/-
  THE CLAIM OF THIS PROOF (`Cert.Proof.claim`): the kernel and its printing over the extended reals run to the end, leave their arguments
  alone and bring every counter back to zero; so does the reference; and, where the table of row numbers is in order, the kernel over the
  extended reals ends with the reference's two results.
-/
module

public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_order
public import Idealize.ShloMosaic.Adequacy
public import Idealize.ShloMosaic.Init
public import proofs.«01_k».proof.Proof.Run
public import proofs.«01_k».proof.Proof.InOrder
public import proofs.«01_k».proof.Proof.Dense
public import proofs.«01_k».proof.Proof.Mask

@[expose] public section

set_option maxRecDepth 16384

noncomputable section

namespace Cert.Proof

open Idealize.ShloMosaic Idealize.SL.Sem

/-- The kernel as it is written: every run ends, its arguments are unchanged and every counter is zero. -/
theorem kernel_rests : Cert.quiescent_Kernel := fun m g _ => Cert.Kernel.Gen.frame m g

/-- The kernel over the extended reals: the same, from any memory. -/
theorem ideal_rests : Cert.quiescent_KernelIdeal := fun m g _ => Cert.KernelIdeal.Gen.frame m g

/-- The kernel over the extended reals, from a memory whose row numbers are in order. -/
theorem ideal_rests_in_order : Cert.quiescent_KernelIdeal_pre_in_order := fun m g _ => Cert.KernelIdeal.Gen.frame m g

/-- The reference: every run ends, its arguments are unchanged, and it has no counter that could be anything but zero. -/
theorem reference_rests : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run m g)

/-- The reference, from a memory whose row numbers are in order. -/
theorem reference_rests_in_order : Cert.quiescent_ReferenceIdeal_pre_in_order := fun m g _ =>
  (θ_run Cert.ReferenceIdeal.defs _ _).mono (fun r h => ⟨fun c => (h c).2.2, sem_eq_zero_of_no_sems (by decide) r.2⟩)
    (Cert.ReferenceIdeal.Value.run m g)

/-- The reference's first result on arguments in order, whole: each row's best scores, the rest zero. -/
theorem reference_scores (x0 : IVec Cert.ReferenceIdeal.S10000 32) (x1 : FVec Ideal Cert.ReferenceIdeal.S10000x128 .f32)
    (x2 : FVec Ideal Cert.ReferenceIdeal.S128x128 .f32) (x3 : FVec Ideal Cert.ReferenceIdeal.S128 .f32)
    (x4 : FVec Ideal Cert.ReferenceIdeal.S128x128 .f32) (x5 : FVec Ideal Cert.ReferenceIdeal.S128 .f32)
    (h : ∀ i : Fin 10000, x0 (ValueIdx.ix1 i) = BitVec.ofNat 32 i.val) :
    Cert.ReferenceIdeal.Read.val_main_v56 (F := Ideal) x0 x1 x2 x3 x4 x5
      = fun i : Cert.ReferenceIdeal.S10000x10000.Idx =>
          Cert.Spec.best (Cert.ReferenceIdeal.Dense.v x1 x2 x3) (Cert.ReferenceIdeal.Dense.w x1 x4 x5) (i 0) (i 1) :=
  funext fun i =>
    (congrArg (Cert.ReferenceIdeal.Read.val_main_v56 (F := Ideal) x0 x1 x2 x3 x4 x5) (ValueIdx.eq_ix2 i)).trans
      (Cert.ReferenceIdeal.Mask.result x0 x1 x2 x3 x4 x5 h (i 0) (i 1))

/-- The reference's second result on arguments in order, whole: the first node vectors. -/
theorem reference_vectors (x0 : IVec Cert.ReferenceIdeal.S10000 32) (x1 : FVec Ideal Cert.ReferenceIdeal.S10000x128 .f32)
    (x2 : FVec Ideal Cert.ReferenceIdeal.S128x128 .f32) (x3 : FVec Ideal Cert.ReferenceIdeal.S128 .f32)
    (h : ∀ i : Fin 10000, x0 (ValueIdx.ix1 i) = BitVec.ofNat 32 i.val) :
    Cert.ReferenceIdeal.Read.val_main_v9 (F := Ideal) x0 x1 x2 x3
      = fun i : Cert.ReferenceIdeal.S10000x128.Idx => Cert.ReferenceIdeal.Dense.v x1 x2 x3 (i 0) (i 1) :=
  funext fun i =>
    (congrArg (Cert.ReferenceIdeal.Read.val_main_v9 (F := Ideal) x0 x1 x2 x3) (ValueIdx.eq_ix2 i)).trans
      (Cert.ReferenceIdeal.Dense.first_vec x0 x1 x2 x3 h (i 0) (i 1))

/-- From memories that agree on the arguments, row numbers in order, the kernel and the reference end with the same two results. -/
theorem same_results : Cert.algebraic_KernelIdeal_ReferenceIdeal_pre_in_order := by
  intro m g m' g' hpre hagree
  refine ⟨_, _, Cert.KernelIdeal.Run.run m g, ?_⟩
  refine (θ_run Cert.ReferenceIdeal.defs _ _).mono (fun r h c => ?_) (Cert.ReferenceIdeal.Value.run m' g')
  obtain ⟨h56, h9, hargs⟩ := h c
  obtain ⟨e0, e1, e2, e3, e4, e5⟩ := hagree c
  have order := Cert.InOrder.of_fn _ _ _ _ _ _ (hpre c)
  refine ⟨?_, ?_, hargs⟩
  · rw [h56, Cert.ReferenceIdeal.Read.val_main_v56_eq m' c, e0, e1, e2, e3, e4, e5]
    exact reference_scores _ _ _ _ _ _ order
  · refine h9.trans ((Cert.ReferenceIdeal.Read.val_main_v9_eq _ _ _ _).trans ?_)
    rw [e0, e1, e2, e3]
    exact reference_vectors _ _ _ _ order

/-- Every claim together. -/
theorem claim : Cert.Claim :=
  ⟨Cert.Kernel.Gen.facts, Cert.KernelIdeal.Gen.facts, Cert.ReferenceIdeal.Gen.facts, Cert.Pre_in_order.Gen.facts,
    kernel_rests, ideal_rests, ideal_rests_in_order, reference_rests, reference_rests_in_order, trivial, same_results⟩

end Cert.Proof

end
